-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v6_1)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v6_1) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v77) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x5000x4 : Shape := ⟨3, ![1, 5000, 4]⟩
abbrev S1x5000x80 : Shape := ⟨3, ![1, 5000, 80]⟩
abbrev S5000x4 : Shape := ⟨2, ![5000, 4]⟩
abbrev S_ : Shape := ⟨0, ![]⟩
abbrev S5120x4 : Shape := ⟨2, ![5120, 4]⟩
abbrev S4x5120 : Shape := ⟨2, ![4, 5120]⟩
abbrev S5000x80 : Shape := ⟨2, ![5000, 80]⟩
abbrev S80x5000 : Shape := ⟨2, ![80, 5000]⟩
abbrev S80x5120 : Shape := ⟨2, ![80, 5120]⟩
abbrev S1x50 : Shape := ⟨2, ![1, 50]⟩
abbrev S1x1 : Shape := ⟨2, ![1, 1]⟩
abbrev S1x5120 : Shape := ⟨2, ![1, 5120]⟩
abbrev S5120x1 : Shape := ⟨2, ![5120, 1]⟩
abbrev S80x50 : Shape := ⟨2, ![80, 50]⟩
abbrev S80 : Shape := ⟨1, ![80]⟩
abbrev S80x1 : Shape := ⟨2, ![80, 1]⟩
abbrev S80x4 : Shape := ⟨2, ![80, 4]⟩
abbrev S1x80x50 : Shape := ⟨3, ![1, 80, 50]⟩
abbrev S1 : Shape := ⟨1, ![1]⟩
abbrev S1x1x1 : Shape := ⟨3, ![1, 1, 1]⟩
abbrev S50 : Shape := ⟨1, ![50]⟩
abbrev S50x1 : Shape := ⟨2, ![50, 1]⟩
abbrev S50x4 : Shape := ⟨2, ![50, 4]⟩
abbrev S1x50x4 : Shape := ⟨3, ![1, 50, 4]⟩

abbrev nBuf : Space → Nat
  | .hbm => 30
  | .vmem => 10
  | .smem => 0
  | _ => 0

abbrev bufTy : (tb : Table) → Fin (tcTables nBuf tb) → BufTy
  | .hbm, ⟨0, _⟩ => ⟨S1x5000x4, .f32⟩
  | .hbm, ⟨1, _⟩ => ⟨S1x5000x80, .f32⟩
  | .hbm, ⟨2, _⟩ => ⟨S5000x4, .f32⟩
  | .hbm, ⟨3, _⟩ => ⟨S_, .i32⟩
  | .hbm, ⟨4, _⟩ => ⟨S_, .f32⟩
  | .hbm, ⟨5, _⟩ => ⟨S5120x4, .f32⟩
  | .hbm, ⟨6, _⟩ => ⟨S4x5120, .f32⟩
  | .hbm, ⟨7, _⟩ => ⟨S5000x80, .f32⟩
  | .hbm, ⟨8, _⟩ => ⟨S80x5000, .f32⟩
  | .hbm, ⟨9, _⟩ => ⟨S_, .f32⟩
  | .hbm, ⟨10, _⟩ => ⟨S_, .f32⟩
  | .hbm, ⟨11, _⟩ => ⟨S80x5120, .f32⟩
  | .hbm, ⟨12, _⟩ => ⟨S1x50, .f32⟩
  | .hbm, ⟨13, _⟩ => ⟨S1x50, .f32⟩
  | .hbm, ⟨14, _⟩ => ⟨S1x50, .f32⟩
  | .hbm, ⟨15, _⟩ => ⟨S1x50, .f32⟩
  | .hbm, ⟨16, _⟩ => ⟨S1x50, .f32⟩
  | .hbm, ⟨17, _⟩ => ⟨S1x50, .f32⟩
  | .hbm, ⟨18, _⟩ => ⟨S1x1, .i32⟩
  | .hbm, ⟨19, _⟩ => ⟨S50, .f32⟩
  | .hbm, ⟨20, _⟩ => ⟨S50, .f32⟩
  | .hbm, ⟨21, _⟩ => ⟨S50, .f32⟩
  | .hbm, ⟨22, _⟩ => ⟨S50, .f32⟩
  | .hbm, ⟨23, _⟩ => ⟨S50x1, .f32⟩
  | .hbm, ⟨24, _⟩ => ⟨S50x1, .f32⟩
  | .hbm, ⟨25, _⟩ => ⟨S50x1, .f32⟩
  | .hbm, ⟨26, _⟩ => ⟨S50x1, .f32⟩
  | .hbm, ⟨27, _⟩ => ⟨S50x4, .f32⟩
  | .hbm, ⟨28, _⟩ => ⟨S1x50x4, .f32⟩
  | .hbm, ⟨29, _⟩ => ⟨S1, .i32⟩
  | .local _ .vmem, ⟨0, _⟩ => ⟨S4x5120, .f32⟩
  | .local _ .vmem, ⟨1, _⟩ => ⟨S5120x4, .f32⟩
  | .local _ .vmem, ⟨2, _⟩ => ⟨S80x5120, .f32⟩
  | .local _ .vmem, ⟨3, _⟩ => ⟨S1x50, .f32⟩
  | .local _ .vmem, ⟨4, _⟩ => ⟨S1x50, .f32⟩
  | .local _ .vmem, ⟨5, _⟩ => ⟨S1x50, .f32⟩
  | .local _ .vmem, ⟨6, _⟩ => ⟨S1x50, .f32⟩
  | .local _ .vmem, ⟨7, _⟩ => ⟨S1x50, .f32⟩
  | .local _ .vmem, ⟨8, _⟩ => ⟨S1x50, .f32⟩
  | .local _ .vmem, ⟨9, _⟩ => ⟨S1x1, .i32⟩
  | _, _ => ⟨S1x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_call1_v0 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c50_i32 : BitVec 32 := 50#32
  let v64 : BitVec 32 := Scalar.addi c0_i32 c50_i32
  let c1_i32 : BitVec 32 := 1#32
  ⟨c0_i32, v64, c1_i32⟩
@[reducible] def k0_t2_loop : Scf.Loop 32 :=
  let c0_i32_34 : BitVec 32 := 0#32
  let c50_i32_35 : BitVec 32 := 50#32
  let v74 : BitVec 32 := Scalar.addi c0_i32_34 c50_i32_35
  let c1_i32_36 : BitVec 32 := 1#32
  ⟨c0_i32_34, v74, c1_i32_36⟩
abbrev stage0_0 : Fin 1 → Memref sig .tc .vmem S4x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x50 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x50 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S1x5000x4 : Shape := ⟨3, ![1, 5000, 4]⟩
abbrev S1x5000x80 : Shape := ⟨3, ![1, 5000, 80]⟩
abbrev S5000x80 : Shape := ⟨2, ![5000, 80]⟩
abbrev S5000x4 : Shape := ⟨2, ![5000, 4]⟩
abbrev S5000x2 : Shape := ⟨2, ![5000, 2]⟩
abbrev S_ : Shape := ⟨0, ![]⟩
abbrev S80x5000 : Shape := ⟨2, ![80, 5000]⟩
abbrev S80x50 : Shape := ⟨2, ![80, 50]⟩
abbrev S80x1 : Shape := ⟨2, ![80, 1]⟩
abbrev S80 : Shape := ⟨1, ![80]⟩
abbrev S80x4 : Shape := ⟨2, ![80, 4]⟩
abbrev S5000x1 : Shape := ⟨2, ![5000, 1]⟩
abbrev S5000 : Shape := ⟨1, ![5000]⟩
abbrev S1x5000 : Shape := ⟨2, ![1, 5000]⟩
abbrev S4000 : Shape := ⟨1, ![4000]⟩
abbrev S50 : Shape := ⟨1, ![50]⟩
abbrev S50x1 : Shape := ⟨2, ![50, 1]⟩
abbrev S50x4 : Shape := ⟨2, ![50, 4]⟩
abbrev S1x50x4 : Shape := ⟨3, ![1, 50, 4]⟩
abbrev S1x50 : Shape := ⟨2, ![1, 50]⟩
abbrev S1 : Shape := ⟨1, ![1]⟩

abbrev nBuf : Space → Nat
  | .hbm => 251
  | .vmem => 0
  | .smem => 0
  | _ => 0

abbrev hbmTy0_0 (i : Nat) : BufTy := match i % 128 with
  | 0 => ⟨S1x5000x4, .f32⟩
  | 1 => ⟨S1x5000x80, .f32⟩
  | 2 => ⟨S5000x80, .f32⟩
  | 3 => ⟨S5000x4, .f32⟩
  | 4 => ⟨S5000x2, .f32⟩
  | 5 => ⟨S5000x2, .f32⟩
  | 6 => ⟨S5000x2, .f32⟩
  | 7 => ⟨S5000x2, .f32⟩
  | 8 => ⟨S_, .f32⟩
  | 9 => ⟨S5000x2, .f32⟩
  | 10 => ⟨S5000x2, .f32⟩
  | 11 => ⟨S5000x2, .f32⟩
  | 12 => ⟨S_, .f32⟩
  | 13 => ⟨S5000x2, .f32⟩
  | 14 => ⟨S5000x2, .f32⟩
  | 15 => ⟨S_, .f32⟩
  | 16 => ⟨S5000x2, .f32⟩
  | 17 => ⟨S5000x2, .f32⟩
  | 18 => ⟨S5000x2, .f32⟩
  | 19 => ⟨S_, .f32⟩
  | 20 => ⟨S5000x2, .f32⟩
  | 21 => ⟨S5000x2, .f32⟩
  | 22 => ⟨S5000x4, .f32⟩
  | 23 => ⟨S80x5000, .f32⟩
  | 24 => ⟨S_, .f32⟩
  | 25 => ⟨S80x5000, .f32⟩
  | 26 => ⟨S80x5000, .i1⟩
  | 27 => ⟨S_, .f32⟩
  | 28 => ⟨S_, .f32⟩
  | 29 => ⟨S80x5000, .f32⟩
  | 30 => ⟨S80x5000, .f32⟩
  | 31 => ⟨S_, .i32⟩
  | 32 => ⟨S80x50, .i32⟩
  | 33 => ⟨S_, .f32⟩
  | 34 => ⟨S80x50, .f32⟩
  | 35 => ⟨S_, .i32⟩
  | 36 => ⟨S_, .i32⟩
  | 37 => ⟨S5000x4, .f32⟩
  | 38 => ⟨S_, .i32⟩
  | 39 => ⟨S_, .i32⟩
  | 40 => ⟨S80x5000, .f32⟩
  | 41 => ⟨S80x50, .i32⟩
  | 42 => ⟨S80x50, .f32⟩
  | 43 => ⟨S_, .i32⟩
  | 44 => ⟨S_, .i1⟩
  | 45 => ⟨S_, .i32⟩
  | 46 => ⟨S_, .i32⟩
  | 47 => ⟨S80x1, .f32⟩
  | 48 => ⟨S80x1, .i32⟩
  | 49 => ⟨S80, .f32⟩
  | 50 => ⟨S80, .i32⟩
  | 51 => ⟨S80x1, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S80x50, .i32⟩
  | 60 => ⟨S80x1, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S80x50, .f32⟩
  | 69 => ⟨S_, .i32⟩
  | 70 => ⟨S80, .i32⟩
  | 71 => ⟨S80, .i1⟩
  | 72 => ⟨S_, .i32⟩
  | 73 => ⟨S80, .i32⟩
  | 74 => ⟨S80, .i32⟩
  | 75 => ⟨S80, .i32⟩
  | 76 => ⟨S80x1, .i32⟩
  | 77 => ⟨S80x4, .f32⟩
  | 78 => ⟨S80x1, .f32⟩
  | 79 => ⟨S5000x1, .f32⟩
  | 80 => ⟨S5000, .f32⟩
  | 81 => ⟨S1x5000, .f32⟩
  | 82 => ⟨S80x5000, .f32⟩
  | 83 => ⟨S80x5000, .f32⟩
  | 84 => ⟨S80x5000, .f32⟩
  | 85 => ⟨S80x1, .f32⟩
  | 86 => ⟨S5000x1, .f32⟩
  | 87 => ⟨S5000, .f32⟩
  | 88 => ⟨S1x5000, .f32⟩
  | 89 => ⟨S80x5000, .f32⟩
  | 90 => ⟨S80x5000, .f32⟩
  | 91 => ⟨S80x5000, .f32⟩
  | 92 => ⟨S80x1, .f32⟩
  | 93 => ⟨S5000x1, .f32⟩
  | 94 => ⟨S5000, .f32⟩
  | 95 => ⟨S1x5000, .f32⟩
  | 96 => ⟨S80x5000, .f32⟩
  | 97 => ⟨S80x5000, .f32⟩
  | 98 => ⟨S80x5000, .f32⟩
  | 99 => ⟨S80x1, .f32⟩
  | 100 => ⟨S5000x1, .f32⟩
  | 101 => ⟨S5000, .f32⟩
  | 102 => ⟨S1x5000, .f32⟩
  | 103 => ⟨S80x5000, .f32⟩
  | 104 => ⟨S80x5000, .f32⟩
  | 105 => ⟨S80x5000, .f32⟩
  | 106 => ⟨S80x5000, .f32⟩
  | 107 => ⟨S_, .f32⟩
  | 108 => ⟨S_, .f32⟩
  | 109 => ⟨S80x5000, .f32⟩
  | 110 => ⟨S80x5000, .f32⟩
  | 111 => ⟨S80x5000, .f32⟩
  | 112 => ⟨S_, .f32⟩
  | 113 => ⟨S_, .f32⟩
  | 114 => ⟨S80x5000, .f32⟩
  | 115 => ⟨S80x5000, .f32⟩
  | 116 => ⟨S80x5000, .f32⟩
  | 117 => ⟨S80x1, .f32⟩
  | 118 => ⟨S80x1, .f32⟩
  | 119 => ⟨S80x1, .f32⟩
  | 120 => ⟨S80x1, .f32⟩
  | 121 => ⟨S80x1, .f32⟩
  | 122 => ⟨S80x1, .f32⟩
  | 123 => ⟨S80x1, .f32⟩
  | 124 => ⟨S5000x1, .f32⟩
  | 125 => ⟨S5000, .f32⟩
  | 126 => ⟨S1x5000, .f32⟩
  | 127 => ⟨S5000x1, .f32⟩
  | _ => ⟨S1x5000x4, .f32⟩

abbrev hbmTy0_1 (i : Nat) : BufTy := match i % 128 with
  | 0 => ⟨S5000, .f32⟩
  | 1 => ⟨S1x5000, .f32⟩
  | 2 => ⟨S1x5000, .f32⟩
  | 3 => ⟨S5000x1, .f32⟩
  | 4 => ⟨S5000, .f32⟩
  | 5 => ⟨S1x5000, .f32⟩
  | 6 => ⟨S5000x1, .f32⟩
  | 7 => ⟨S5000, .f32⟩
  | 8 => ⟨S1x5000, .f32⟩
  | 9 => ⟨S1x5000, .f32⟩
  | 10 => ⟨S1x5000, .f32⟩
  | 11 => ⟨S80x5000, .f32⟩
  | 12 => ⟨S80x5000, .f32⟩
  | 13 => ⟨S80x5000, .f32⟩
  | 14 => ⟨S80x5000, .f32⟩
  | 15 => ⟨S_, .f32⟩
  | 16 => ⟨S80x5000, .f32⟩
  | 17 => ⟨S80x5000, .f32⟩
  | 18 => ⟨S80x5000, .f32⟩
  | 19 => ⟨S_, .f32⟩
  | 20 => ⟨S80x5000, .f32⟩
  | 21 => ⟨S80x5000, .i1⟩
  | 22 => ⟨S_, .f32⟩
  | 23 => ⟨S80, .f32⟩
  | 24 => ⟨S80, .i1⟩
  | 25 => ⟨S80x1, .i1⟩
  | 26 => ⟨S80x5000, .i1⟩
  | 27 => ⟨S80x5000, .i1⟩
  | 28 => ⟨S_, .f32⟩
  | 29 => ⟨S_, .f32⟩
  | 30 => ⟨S80x5000, .f32⟩
  | 31 => ⟨S80x5000, .f32⟩
  | 32 => ⟨S5000, .i32⟩
  | 33 => ⟨S80x1, .i32⟩
  | 34 => ⟨S1x5000, .i32⟩
  | 35 => ⟨S80x5000, .i32⟩
  | 36 => ⟨S80x5000, .i32⟩
  | 37 => ⟨S80x5000, .i1⟩
  | 38 => ⟨S_, .f32⟩
  | 39 => ⟨S_, .f32⟩
  | 40 => ⟨S80x5000, .f32⟩
  | 41 => ⟨S80x5000, .f32⟩
  | 42 => ⟨S_, .i32⟩
  | 43 => ⟨S_, .i32⟩
  | 44 => ⟨S4000, .i32⟩
  | 45 => ⟨S4000, .f32⟩
  | 46 => ⟨S80, .i32⟩
  | 47 => ⟨S80x50, .i32⟩
  | 48 => ⟨S4000, .i32⟩
  | 49 => ⟨S50, .f32⟩
  | 50 => ⟨S50, .i32⟩
  | 51 => ⟨S5000x4, .f32⟩
  | 52 => ⟨S5000x2, .f32⟩
  | 53 => ⟨S5000x2, .f32⟩
  | 54 => ⟨S5000x2, .f32⟩
  | 55 => ⟨S5000x2, .f32⟩
  | 56 => ⟨S_, .f32⟩
  | 57 => ⟨S5000x2, .f32⟩
  | 58 => ⟨S5000x2, .f32⟩
  | 59 => ⟨S5000x2, .f32⟩
  | 60 => ⟨S_, .f32⟩
  | 61 => ⟨S5000x2, .f32⟩
  | 62 => ⟨S5000x2, .f32⟩
  | 63 => ⟨S_, .f32⟩
  | 64 => ⟨S5000x2, .f32⟩
  | 65 => ⟨S5000x2, .f32⟩
  | 66 => ⟨S5000x2, .f32⟩
  | 67 => ⟨S_, .f32⟩
  | 68 => ⟨S5000x2, .f32⟩
  | 69 => ⟨S5000x2, .f32⟩
  | 70 => ⟨S5000x4, .f32⟩
  | 71 => ⟨S_, .i32⟩
  | 72 => ⟨S50, .i32⟩
  | 73 => ⟨S50, .i1⟩
  | 74 => ⟨S_, .i32⟩
  | 75 => ⟨S50, .i32⟩
  | 76 => ⟨S50, .i32⟩
  | 77 => ⟨S50, .i32⟩
  | 78 => ⟨S50x1, .i32⟩
  | 79 => ⟨S50, .i32⟩
  | 80 => ⟨S_, .i32⟩
  | 81 => ⟨S50, .i32⟩
  | 82 => ⟨S50, .i1⟩
  | 83 => ⟨S_, .i32⟩
  | 84 => ⟨S50, .i32⟩
  | 85 => ⟨S50, .i32⟩
  | 86 => ⟨S50, .i32⟩
  | 87 => ⟨S50x1, .i32⟩
  | 88 => ⟨S50x4, .f32⟩
  | 89 => ⟨S_, .i32⟩
  | 90 => ⟨S50, .i32⟩
  | 91 => ⟨S50, .i1⟩
  | 92 => ⟨S_, .i32⟩
  | 93 => ⟨S50, .i32⟩
  | 94 => ⟨S50, .i32⟩
  | 95 => ⟨S50, .i32⟩
  | 96 => ⟨S50x1, .i32⟩
  | 97 => ⟨S50, .i32⟩
  | 98 => ⟨S50, .f32⟩
  | 99 => ⟨S_, .f32⟩
  | 100 => ⟨S50, .f32⟩
  | 101 => ⟨S50, .i1⟩
  | 102 => ⟨S50, .i32⟩
  | 103 => ⟨S_, .i32⟩
  | 104 => ⟨S_, .i32⟩
  | 105 => ⟨S_, .f32⟩
  | 106 => ⟨S_, .f32⟩
  | 107 => ⟨S50, .f32⟩
  | 108 => ⟨S50, .f32⟩
  | 109 => ⟨S50x1, .i1⟩
  | 110 => ⟨S_, .f32⟩
  | 111 => ⟨S_, .f32⟩
  | 112 => ⟨S50x4, .i1⟩
  | 113 => ⟨S50x4, .f32⟩
  | 114 => ⟨S50x4, .f32⟩
  | 115 => ⟨S_, .f32⟩
  | 116 => ⟨S_, .f32⟩
  | 117 => ⟨S50, .f32⟩
  | 118 => ⟨S50, .f32⟩
  | 119 => ⟨S1x50x4, .f32⟩
  | 120 => ⟨S1x50, .f32⟩
  | 121 => ⟨S1x50, .f32⟩
  | 122 => ⟨S1, .i32⟩
  | _ => ⟨S1x5000x4, .f32⟩

abbrev hbmTy (i : Nat) : BufTy := match i / 128 with
  | 0 => hbmTy0_0 i
  | 1 => hbmTy0_1 i
  | _ => ⟨S1x5000x4, .f32⟩

abbrev bufTy : (tb : Table) → Fin (tcTables nBuf tb) → BufTy
  | .hbm, ⟨i, _⟩ => hbmTy i
  | _, _ => ⟨S1x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_c_6 : Ref sig .tc := ⟨.hbm, 35, rfl⟩
abbrev main_c_7 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_v23_3 : Ref sig .tc := ⟨.hbm, 40, rfl⟩
abbrev main_v23_4 : Ref sig .tc := ⟨.hbm, 41, rfl⟩
abbrev main_v23_5 : Ref sig .tc := ⟨.hbm, 42, rfl⟩
abbrev main_while0c_c_28 : Ref sig .tc := ⟨.hbm, 43, rfl⟩
abbrev main_while0c_v79 : Ref sig .tc := ⟨.hbm, 44, rfl⟩
abbrev main_while0b_c_28 : Ref sig .tc := ⟨.hbm, 45, rfl⟩
abbrev main_while0b_v79 : Ref sig .tc := ⟨.hbm, 46, rfl⟩
abbrev main_while0b_values_29 : Ref sig .tc := ⟨.hbm, 47, rfl⟩
abbrev main_while0b_indices_30 : Ref sig .tc := ⟨.hbm, 48, rfl⟩
abbrev main_while0b_v80 : Ref sig .tc := ⟨.hbm, 49, rfl⟩
abbrev main_while0b_v81 : Ref sig .tc := ⟨.hbm, 50, rfl⟩
abbrev main_while0b_v82 : Ref sig .tc := ⟨.hbm, 51, rfl⟩
abbrev main_while0b_c_31 : Ref sig .tc := ⟨.hbm, 52, rfl⟩
abbrev main_while0b_v83 : Ref sig .tc := ⟨.hbm, 53, rfl⟩
abbrev main_while0b_v84 : Ref sig .tc := ⟨.hbm, 54, rfl⟩
abbrev main_while0b_c_32 : Ref sig .tc := ⟨.hbm, 55, rfl⟩
abbrev main_while0b_v85 : Ref sig .tc := ⟨.hbm, 56, rfl⟩
abbrev main_while0b_v86 : Ref sig .tc := ⟨.hbm, 57, rfl⟩
abbrev main_while0b_c_33 : Ref sig .tc := ⟨.hbm, 58, rfl⟩
abbrev main_while0b_v87 : Ref sig .tc := ⟨.hbm, 59, rfl⟩
abbrev main_while0b_v88 : Ref sig .tc := ⟨.hbm, 60, rfl⟩
abbrev main_while0b_c_34 : Ref sig .tc := ⟨.hbm, 61, rfl⟩
abbrev main_while0b_v89 : Ref sig .tc := ⟨.hbm, 62, rfl⟩
abbrev main_while0b_v90 : Ref sig .tc := ⟨.hbm, 63, rfl⟩
abbrev main_while0b_c_35 : Ref sig .tc := ⟨.hbm, 64, rfl⟩
abbrev main_while0b_v91 : Ref sig .tc := ⟨.hbm, 65, rfl⟩
abbrev main_while0b_v92 : Ref sig .tc := ⟨.hbm, 66, rfl⟩
abbrev main_while0b_c_36 : Ref sig .tc := ⟨.hbm, 67, rfl⟩
abbrev main_while0b_v93 : Ref sig .tc := ⟨.hbm, 68, rfl⟩
abbrev main_while0b_c_37 : Ref sig .tc := ⟨.hbm, 69, rfl⟩
abbrev main_while0b_v94 : Ref sig .tc := ⟨.hbm, 70, rfl⟩
abbrev main_while0b_v95 : Ref sig .tc := ⟨.hbm, 71, rfl⟩
abbrev main_while0b_c_38 : Ref sig .tc := ⟨.hbm, 72, rfl⟩
abbrev main_while0b_v96 : Ref sig .tc := ⟨.hbm, 73, rfl⟩
abbrev main_while0b_v97 : Ref sig .tc := ⟨.hbm, 74, rfl⟩
abbrev main_while0b_v98 : Ref sig .tc := ⟨.hbm, 75, rfl⟩
abbrev main_while0b_v99 : Ref sig .tc := ⟨.hbm, 76, rfl⟩
abbrev main_while0b_v100 : Ref sig .tc := ⟨.hbm, 77, rfl⟩
abbrev main_while0b_v101 : Ref sig .tc := ⟨.hbm, 78, rfl⟩
abbrev main_while0b_v102 : Ref sig .tc := ⟨.hbm, 79, rfl⟩
abbrev main_while0b_v103 : Ref sig .tc := ⟨.hbm, 80, rfl⟩
abbrev main_while0b_v104 : Ref sig .tc := ⟨.hbm, 81, rfl⟩
abbrev main_while0b_v105 : Ref sig .tc := ⟨.hbm, 82, rfl⟩
abbrev main_while0b_v106 : Ref sig .tc := ⟨.hbm, 83, rfl⟩
abbrev main_while0b_v107 : Ref sig .tc := ⟨.hbm, 84, rfl⟩
abbrev main_while0b_v108 : Ref sig .tc := ⟨.hbm, 85, rfl⟩
abbrev main_while0b_v109 : Ref sig .tc := ⟨.hbm, 86, rfl⟩
abbrev main_while0b_v110 : Ref sig .tc := ⟨.hbm, 87, rfl⟩
abbrev main_while0b_v111 : Ref sig .tc := ⟨.hbm, 88, rfl⟩
abbrev main_while0b_v112 : Ref sig .tc := ⟨.hbm, 89, rfl⟩
abbrev main_while0b_v113 : Ref sig .tc := ⟨.hbm, 90, rfl⟩
abbrev main_while0b_v114 : Ref sig .tc := ⟨.hbm, 91, rfl⟩
abbrev main_while0b_v115 : Ref sig .tc := ⟨.hbm, 92, rfl⟩
abbrev main_while0b_v116 : Ref sig .tc := ⟨.hbm, 93, rfl⟩
abbrev main_while0b_v117 : Ref sig .tc := ⟨.hbm, 94, rfl⟩
abbrev main_while0b_v118 : Ref sig .tc := ⟨.hbm, 95, rfl⟩
abbrev main_while0b_v119 : Ref sig .tc := ⟨.hbm, 96, rfl⟩
abbrev main_while0b_v120 : Ref sig .tc := ⟨.hbm, 97, rfl⟩
abbrev main_while0b_v121 : Ref sig .tc := ⟨.hbm, 98, rfl⟩
abbrev main_while0b_v122 : Ref sig .tc := ⟨.hbm, 99, rfl⟩
abbrev main_while0b_v123 : Ref sig .tc := ⟨.hbm, 100, rfl⟩
abbrev main_while0b_v124 : Ref sig .tc := ⟨.hbm, 101, rfl⟩
abbrev main_while0b_v125 : Ref sig .tc := ⟨.hbm, 102, rfl⟩
abbrev main_while0b_v126 : Ref sig .tc := ⟨.hbm, 103, rfl⟩
abbrev main_while0b_v127 : Ref sig .tc := ⟨.hbm, 104, rfl⟩
abbrev main_while0b_v128 : Ref sig .tc := ⟨.hbm, 105, rfl⟩
abbrev main_while0b_v129 : Ref sig .tc := ⟨.hbm, 106, rfl⟩
abbrev main_while0b_cst_39 : Ref sig .tc := ⟨.hbm, 107, rfl⟩
abbrev main_while0b_call1_v0 : Ref sig .tc := ⟨.hbm, 108, rfl⟩
abbrev main_while0b_call1_v1 : Ref sig .tc := ⟨.hbm, 109, rfl⟩
abbrev main_while0b_v130 : Ref sig .tc := ⟨.hbm, 110, rfl⟩
abbrev main_while0b_v131 : Ref sig .tc := ⟨.hbm, 111, rfl⟩
abbrev main_while0b_cst_40 : Ref sig .tc := ⟨.hbm, 112, rfl⟩
abbrev main_while0b_call2_v0 : Ref sig .tc := ⟨.hbm, 113, rfl⟩
abbrev main_while0b_call2_v1 : Ref sig .tc := ⟨.hbm, 114, rfl⟩
abbrev main_while0b_v132 : Ref sig .tc := ⟨.hbm, 115, rfl⟩
abbrev main_while0b_v133 : Ref sig .tc := ⟨.hbm, 116, rfl⟩
abbrev main_while0b_v134 : Ref sig .tc := ⟨.hbm, 117, rfl⟩
abbrev main_while0b_v135 : Ref sig .tc := ⟨.hbm, 118, rfl⟩
abbrev main_while0b_v136 : Ref sig .tc := ⟨.hbm, 119, rfl⟩
abbrev main_while0b_v137 : Ref sig .tc := ⟨.hbm, 120, rfl⟩
abbrev main_while0b_v138 : Ref sig .tc := ⟨.hbm, 121, rfl⟩
abbrev main_while0b_v139 : Ref sig .tc := ⟨.hbm, 122, rfl⟩
abbrev main_while0b_v140 : Ref sig .tc := ⟨.hbm, 123, rfl⟩
abbrev main_while0b_v141 : Ref sig .tc := ⟨.hbm, 124, rfl⟩
abbrev main_while0b_v142 : Ref sig .tc := ⟨.hbm, 125, rfl⟩
abbrev main_while0b_v143 : Ref sig .tc := ⟨.hbm, 126, rfl⟩
abbrev main_while0b_v144 : Ref sig .tc := ⟨.hbm, 127, rfl⟩
abbrev main_while0b_v145 : Ref sig .tc := ⟨.hbm, 128, rfl⟩
abbrev main_while0b_v146 : Ref sig .tc := ⟨.hbm, 129, rfl⟩
abbrev main_while0b_v147 : Ref sig .tc := ⟨.hbm, 130, rfl⟩
abbrev main_while0b_v148 : Ref sig .tc := ⟨.hbm, 131, rfl⟩
abbrev main_while0b_v149 : Ref sig .tc := ⟨.hbm, 132, rfl⟩
abbrev main_while0b_v150 : Ref sig .tc := ⟨.hbm, 133, rfl⟩
abbrev main_while0b_v151 : Ref sig .tc := ⟨.hbm, 134, rfl⟩
abbrev main_while0b_v152 : Ref sig .tc := ⟨.hbm, 135, rfl⟩
abbrev main_while0b_v153 : Ref sig .tc := ⟨.hbm, 136, rfl⟩
abbrev main_while0b_v154 : Ref sig .tc := ⟨.hbm, 137, rfl⟩
abbrev main_while0b_v155 : Ref sig .tc := ⟨.hbm, 138, rfl⟩
abbrev main_while0b_v156 : Ref sig .tc := ⟨.hbm, 139, rfl⟩
abbrev main_while0b_v157 : Ref sig .tc := ⟨.hbm, 140, rfl⟩
abbrev main_while0b_v158 : Ref sig .tc := ⟨.hbm, 141, rfl⟩
abbrev main_while0b_v159 : Ref sig .tc := ⟨.hbm, 142, rfl⟩
abbrev main_while0b_cst_41 : Ref sig .tc := ⟨.hbm, 143, rfl⟩
abbrev main_while0b_v160 : Ref sig .tc := ⟨.hbm, 144, rfl⟩
abbrev main_while0b_v161 : Ref sig .tc := ⟨.hbm, 145, rfl⟩
abbrev main_while0b_v162 : Ref sig .tc := ⟨.hbm, 146, rfl⟩
abbrev main_while0b_cst_42 : Ref sig .tc := ⟨.hbm, 147, rfl⟩
abbrev main_while0b_v163 : Ref sig .tc := ⟨.hbm, 148, rfl⟩
abbrev main_while0b_v164 : Ref sig .tc := ⟨.hbm, 149, rfl⟩
abbrev main_while0b_cst_43 : Ref sig .tc := ⟨.hbm, 150, rfl⟩
abbrev main_while0b_v165 : Ref sig .tc := ⟨.hbm, 151, rfl⟩
abbrev main_while0b_v166 : Ref sig .tc := ⟨.hbm, 152, rfl⟩
abbrev main_while0b_v167 : Ref sig .tc := ⟨.hbm, 153, rfl⟩
abbrev main_while0b_v168 : Ref sig .tc := ⟨.hbm, 154, rfl⟩
abbrev main_while0b_v169 : Ref sig .tc := ⟨.hbm, 155, rfl⟩
abbrev main_while0b_cst_44 : Ref sig .tc := ⟨.hbm, 156, rfl⟩
abbrev main_while0b_call3_v0 : Ref sig .tc := ⟨.hbm, 157, rfl⟩
abbrev main_while0b_call3_v1 : Ref sig .tc := ⟨.hbm, 158, rfl⟩
abbrev main_while0b_v170 : Ref sig .tc := ⟨.hbm, 159, rfl⟩
abbrev main_while0b_v171 : Ref sig .tc := ⟨.hbm, 160, rfl⟩
abbrev main_while0b_v172 : Ref sig .tc := ⟨.hbm, 161, rfl⟩
abbrev main_while0b_v173 : Ref sig .tc := ⟨.hbm, 162, rfl⟩
abbrev main_while0b_v174 : Ref sig .tc := ⟨.hbm, 163, rfl⟩
abbrev main_while0b_v175 : Ref sig .tc := ⟨.hbm, 164, rfl⟩
abbrev main_while0b_v176 : Ref sig .tc := ⟨.hbm, 165, rfl⟩
abbrev main_while0b_cst_45 : Ref sig .tc := ⟨.hbm, 166, rfl⟩
abbrev main_while0b_call4_v0 : Ref sig .tc := ⟨.hbm, 167, rfl⟩
abbrev main_while0b_call4_v1 : Ref sig .tc := ⟨.hbm, 168, rfl⟩
abbrev main_while0b_v177 : Ref sig .tc := ⟨.hbm, 169, rfl⟩
abbrev main_while0b_c_46 : Ref sig .tc := ⟨.hbm, 170, rfl⟩
abbrev main_while0b_v178 : Ref sig .tc := ⟨.hbm, 171, rfl⟩
abbrev main_v24 : Ref sig .tc := ⟨.hbm, 172, rfl⟩
abbrev main_v25 : Ref sig .tc := ⟨.hbm, 173, rfl⟩
abbrev main_v26 : Ref sig .tc := ⟨.hbm, 174, rfl⟩
abbrev main_v27 : Ref sig .tc := ⟨.hbm, 175, rfl⟩
abbrev main_v28 : Ref sig .tc := ⟨.hbm, 176, rfl⟩
abbrev main_values : Ref sig .tc := ⟨.hbm, 177, rfl⟩
abbrev main_indices : Ref sig .tc := ⟨.hbm, 178, rfl⟩
abbrev main_v29 : Ref sig .tc := ⟨.hbm, 179, rfl⟩
abbrev main_v30 : Ref sig .tc := ⟨.hbm, 180, rfl⟩
abbrev main_v31 : Ref sig .tc := ⟨.hbm, 181, rfl⟩
abbrev main_v32 : Ref sig .tc := ⟨.hbm, 182, rfl⟩
abbrev main_v33 : Ref sig .tc := ⟨.hbm, 183, rfl⟩
abbrev main_cst_8 : Ref sig .tc := ⟨.hbm, 184, rfl⟩
abbrev main_v34 : Ref sig .tc := ⟨.hbm, 185, rfl⟩
abbrev main_v35 : Ref sig .tc := ⟨.hbm, 186, rfl⟩
abbrev main_v36 : Ref sig .tc := ⟨.hbm, 187, rfl⟩
abbrev main_cst_9 : Ref sig .tc := ⟨.hbm, 188, rfl⟩
abbrev main_v37 : Ref sig .tc := ⟨.hbm, 189, rfl⟩
abbrev main_v38 : Ref sig .tc := ⟨.hbm, 190, rfl⟩
abbrev main_cst_10 : Ref sig .tc := ⟨.hbm, 191, rfl⟩
abbrev main_v39 : Ref sig .tc := ⟨.hbm, 192, rfl⟩
abbrev main_v40 : Ref sig .tc := ⟨.hbm, 193, rfl⟩
abbrev main_v41 : Ref sig .tc := ⟨.hbm, 194, rfl⟩
abbrev main_cst_11 : Ref sig .tc := ⟨.hbm, 195, rfl⟩
abbrev main_v42 : Ref sig .tc := ⟨.hbm, 196, rfl⟩
abbrev main_v43 : Ref sig .tc := ⟨.hbm, 197, rfl⟩
abbrev main_v44 : Ref sig .tc := ⟨.hbm, 198, rfl⟩
abbrev main_c_12 : Ref sig .tc := ⟨.hbm, 199, rfl⟩
abbrev main_v45 : Ref sig .tc := ⟨.hbm, 200, rfl⟩
abbrev main_v46 : Ref sig .tc := ⟨.hbm, 201, rfl⟩
abbrev main_c_13 : Ref sig .tc := ⟨.hbm, 202, rfl⟩
abbrev main_v47 : Ref sig .tc := ⟨.hbm, 203, rfl⟩
abbrev main_v48 : Ref sig .tc := ⟨.hbm, 204, rfl⟩
abbrev main_v49 : Ref sig .tc := ⟨.hbm, 205, rfl⟩
abbrev main_v50 : Ref sig .tc := ⟨.hbm, 206, rfl⟩
abbrev main_v51 : Ref sig .tc := ⟨.hbm, 207, rfl⟩
abbrev main_c_14 : Ref sig .tc := ⟨.hbm, 208, rfl⟩
abbrev main_v52 : Ref sig .tc := ⟨.hbm, 209, rfl⟩
abbrev main_v53 : Ref sig .tc := ⟨.hbm, 210, rfl⟩
abbrev main_c_15 : Ref sig .tc := ⟨.hbm, 211, rfl⟩
abbrev main_v54 : Ref sig .tc := ⟨.hbm, 212, rfl⟩
abbrev main_v55 : Ref sig .tc := ⟨.hbm, 213, rfl⟩
abbrev main_v56 : Ref sig .tc := ⟨.hbm, 214, rfl⟩
abbrev main_v57 : Ref sig .tc := ⟨.hbm, 215, rfl⟩
abbrev main_v58 : Ref sig .tc := ⟨.hbm, 216, rfl⟩
abbrev main_c_16 : Ref sig .tc := ⟨.hbm, 217, rfl⟩
abbrev main_v59 : Ref sig .tc := ⟨.hbm, 218, rfl⟩
abbrev main_v60 : Ref sig .tc := ⟨.hbm, 219, rfl⟩
abbrev main_c_17 : Ref sig .tc := ⟨.hbm, 220, rfl⟩
abbrev main_v61 : Ref sig .tc := ⟨.hbm, 221, rfl⟩
abbrev main_v62 : Ref sig .tc := ⟨.hbm, 222, rfl⟩
abbrev main_v63 : Ref sig .tc := ⟨.hbm, 223, rfl⟩
abbrev main_v64 : Ref sig .tc := ⟨.hbm, 224, rfl⟩
abbrev main_v65 : Ref sig .tc := ⟨.hbm, 225, rfl⟩
abbrev main_v66 : Ref sig .tc := ⟨.hbm, 226, rfl⟩
abbrev main_cst_18 : Ref sig .tc := ⟨.hbm, 227, rfl⟩
abbrev main_v67 : Ref sig .tc := ⟨.hbm, 228, rfl⟩
abbrev main_v68 : Ref sig .tc := ⟨.hbm, 229, rfl⟩
abbrev main_v69 : Ref sig .tc := ⟨.hbm, 230, rfl⟩
abbrev main_c_19 : Ref sig .tc := ⟨.hbm, 231, rfl⟩
abbrev main_v70 : Ref sig .tc := ⟨.hbm, 232, rfl⟩
abbrev main_cst_20 : Ref sig .tc := ⟨.hbm, 233, rfl⟩
abbrev main_call5_v0 : Ref sig .tc := ⟨.hbm, 234, rfl⟩
abbrev main_call5_v1 : Ref sig .tc := ⟨.hbm, 235, rfl⟩
abbrev main_v71 : Ref sig .tc := ⟨.hbm, 236, rfl⟩
abbrev main_v72 : Ref sig .tc := ⟨.hbm, 237, rfl⟩
abbrev main_cst_21 : Ref sig .tc := ⟨.hbm, 238, rfl⟩
abbrev main_call6_v0 : Ref sig .tc := ⟨.hbm, 239, rfl⟩
abbrev main_call6_v1 : Ref sig .tc := ⟨.hbm, 240, rfl⟩
abbrev main_call6_v2 : Ref sig .tc := ⟨.hbm, 241, rfl⟩
abbrev main_v73 : Ref sig .tc := ⟨.hbm, 242, rfl⟩
abbrev main_cst_22 : Ref sig .tc := ⟨.hbm, 243, rfl⟩
abbrev main_call7_v0 : Ref sig .tc := ⟨.hbm, 244, rfl⟩
abbrev main_call7_v1 : Ref sig .tc := ⟨.hbm, 245, rfl⟩
abbrev main_v74 : Ref sig .tc := ⟨.hbm, 246, rfl⟩
abbrev main_v75 : Ref sig .tc := ⟨.hbm, 247, rfl⟩
abbrev main_v76 : Ref sig .tc := ⟨.hbm, 248, rfl⟩
abbrev main_v77 : Ref sig .tc := ⟨.hbm, 249, rfl⟩
abbrev main_v78 : Ref sig .tc := ⟨.hbm, 250, rfl⟩

abbrev nD : Nat := 1
abbrev τ : Topo := Topo.v7x

variable {F : FTy → Type} [FloatOps F]

abbrev main_while0_count : Scf.Loop 32 := ⟨0#32, 50#32, 1#32⟩
-- ==== Proof.KernelIdealRun.lean ====
/-
  The run of `KernelIdeal`: what its kernel leaves in its seven result buffers, and the launch around it.

  The kernel has two counted loops and no other control.  Neither touches memory, so each is a fold of a pure
  function: `pick` is one round of the per-class suppression (first loop), `take` one round of the merge (second loop).
  `picked` and `merged` are the two folds, as functions of the kernel's three input blocks.
-/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two loops as folds -/

/-- What the suppression carries: the scores still standing, and per class and round the score and the four corners taken. -/
abbrev Picks (F : FTy → Type) : Type :=
  FVec F S80x5120 .f32 × FVec F S80x50 .f32 × FVec F S80x50 .f32 × FVec F S80x50 .f32 × FVec F S80x50 .f32 × FVec F S80x50 .f32

/-- What the merge carries: the table of scores not yet taken, and the rows of scores, classes and corners taken. -/
abbrev Takes (F : FTy → Type) : Type :=
  FVec F S80x50 .f32 × FVec F S1x50 .f32 × FVec F S1x50 .f32 × FVec F S1x50 .f32 × FVec F S1x50 .f32 × FVec F S1x50 .f32 × FVec F S1x50 .f32

/-- The column numbers of the padded score table. -/
abbrev cols : IVec S80x5120 32 := iota .tc S80x5120 32 [1] iota_S80x5120_d1_w32

/-- The positions of the merged rows. -/
abbrev lanes : IVec S1x50 32 := iota .tc S1x50 32 [1] iota_S1x50_d1_w32

/-- One round of the suppression: the best box of each class is recorded in column `k`, the boxes it overlaps are struck out.
    `w` holds the column numbers. -/
def pick (ya xa yb xb ar : FVec F S1x5120 .f32) (bx : FVec F S5120x4 .f32) (w : IVec S80x5120 32) (k : Fin k0_t1_loop.trips)
    (p : Picks F) : Picks F :=
  (k0_pay50 p.1 (k0_pay17 w p.1) (k0_pay23 ya xa yb xb ar bx w p.1) (k0_pay24 p.1),
    k0_pay52 p.2.1 (Scf.iv 0#32 1#32 k) (k0_pay16 p.1),
    k0_pay53 p.2.2.1 (Scf.iv 0#32 1#32 k) (k0_pay19 bx w p.1),
    k0_pay54 p.2.2.2.1 (Scf.iv 0#32 1#32 k) (k0_pay20 bx w p.1),
    k0_pay55 p.2.2.2.2.1 (Scf.iv 0#32 1#32 k) (k0_pay21 bx w p.1),
    k0_pay56 p.2.2.2.2.2 (Scf.iv 0#32 1#32 k) (k0_pay22 bx w p.1))

/-- One round of the merge: the best entry of the table goes to position `k` of the rows and leaves the table.
    `fl` holds the entries' flat positions, `cn` their class numbers, `ln` the positions in a row. -/
def take (c1 c2 c3 c4 : FVec F S80x50 .f32) (fl : IVec S80x50 32) (cn : FVec F S80x50 .f32) (ln : IVec S1x50 32) (z o : BitVec 32)
    (k : Fin k0_t2_loop.trips) (p : Takes F) : Takes F :=
  (k0_pay7 p.1 (k0_pay26 fl p.1),
    k0_pay1 p.2.1 (k0_pay25 p.1) (k0_pay32 ln z o k),
    k0_pay2 p.2.2.1 (k0_pay27 fl cn p.1) (k0_pay32 ln z o k),
    k0_pay3 p.2.2.2.1 (k0_pay28 c1 fl p.1) (k0_pay32 ln z o k),
    k0_pay4 p.2.2.2.2.1 (k0_pay29 c2 fl p.1) (k0_pay32 ln z o k),
    k0_pay5 p.2.2.2.2.2.1 (k0_pay30 c3 fl p.1) (k0_pay32 ln z o k),
    k0_pay6 p.2.2.2.2.2.2 (k0_pay31 c4 fl p.1) (k0_pay32 ln z o k))

/-- The first loop's region does nothing but return `pick`. -/
theorem body_pick (arg0 : Memref sig .tc .vmem S4x5120 .f32) (harg0 : arg0.IsWhole) (arg1 : Memref sig .tc .vmem S5120x4 .f32) (harg1 : arg1.IsWhole) (arg2 : Memref sig .tc .vmem S80x5120 .f32) (harg2 : arg2.IsWhole) (arg3 : Memref sig .tc .vmem S1x50 .f32) (harg3 : arg3.IsWhole) (arg4 : Memref sig .tc .vmem S1x50 .f32) (harg4 : arg4.IsWhole) (arg5 : Memref sig .tc .vmem S1x50 .f32) (harg5 : arg5.IsWhole) (arg6 : Memref sig .tc .vmem S1x50 .f32) (harg6 : arg6.IsWhole) (arg7 : Memref sig .tc .vmem S1x50 .f32) (harg7 : arg7.IsWhole) (arg8 : Memref sig .tc .vmem S1x50 .f32) (harg8 : arg8.IsWhole) (arg9 : Memref sig .tc .vmem S1x1 .i32) (harg9 : arg9.IsWhole) (ya xa yb xb ar : FVec F S1x5120 .f32) (b0 b1 b2 b3 : FVec F S5120x1 .f32) (w : IVec S80x5120 32) :
    k0_t1_body (F := F) arg0 harg0 arg1 harg1 arg2 harg2 arg3 harg3 arg4 harg4 arg5 harg5 arg6 harg6 arg7 harg7 arg8 harg8 arg9 harg9 ya xa yb xb ar b0 b1 b2 b3 w = fun k p => .ret (pick ya xa yb xb ar (k0_pay46 b0 b1 b2 b3) w k p) := by
  funext k ⟨p0, p1, p2, p3, p4, p5⟩
  unfold k0_t1_body
  simp only [k0_part1_eq_skeleton, k0_part1_skel, pure_bind, Prog.pure_eq_ret, Prog.bind_ret]
  rfl

/-- The second loop's region does nothing but return `take`. -/
theorem body_take (arg0 : Memref sig .tc .vmem S4x5120 .f32) (harg0 : arg0.IsWhole) (arg1 : Memref sig .tc .vmem S5120x4 .f32) (harg1 : arg1.IsWhole) (arg2 : Memref sig .tc .vmem S80x5120 .f32) (harg2 : arg2.IsWhole) (arg3 : Memref sig .tc .vmem S1x50 .f32) (harg3 : arg3.IsWhole) (arg4 : Memref sig .tc .vmem S1x50 .f32) (harg4 : arg4.IsWhole) (arg5 : Memref sig .tc .vmem S1x50 .f32) (harg5 : arg5.IsWhole) (arg6 : Memref sig .tc .vmem S1x50 .f32) (harg6 : arg6.IsWhole) (arg7 : Memref sig .tc .vmem S1x50 .f32) (harg7 : arg7.IsWhole) (arg8 : Memref sig .tc .vmem S1x50 .f32) (harg8 : arg8.IsWhole) (arg9 : Memref sig .tc .vmem S1x1 .i32) (harg9 : arg9.IsWhole) (c1 c2 c3 c4 : FVec F S80x50 .f32) (fl : IVec S80x50 32) (cn : FVec F S80x50 .f32) (ln : IVec S1x50 32)
    (z o : BitVec 32) :
    k0_t2_body (F := F) arg0 harg0 arg1 harg1 arg2 harg2 arg3 harg3 arg4 harg4 arg5 harg5 arg6 harg6 arg7 harg7 arg8 harg8 arg9 harg9 c1 c2 c3 c4 fl cn ln z o = fun k p => .ret (take c1 c2 c3 c4 fl cn ln z o k p) := by
  funext k ⟨p0, p1, p2, p3, p4, p5, p6⟩
  unfold k0_t2_body
  simp only [k0_part2_eq_skeleton, k0_part2_skel, pure_bind, Prog.pure_eq_ret, Prog.bind_ret]
  rfl

/-- The first loop is the return of a fold. -/
theorem loop_pick (arg0 : Memref sig .tc .vmem S4x5120 .f32) (harg0 : arg0.IsWhole) (arg1 : Memref sig .tc .vmem S5120x4 .f32) (harg1 : arg1.IsWhole) (arg2 : Memref sig .tc .vmem S80x5120 .f32) (harg2 : arg2.IsWhole) (arg3 : Memref sig .tc .vmem S1x50 .f32) (harg3 : arg3.IsWhole) (arg4 : Memref sig .tc .vmem S1x50 .f32) (harg4 : arg4.IsWhole) (arg5 : Memref sig .tc .vmem S1x50 .f32) (harg5 : arg5.IsWhole) (arg6 : Memref sig .tc .vmem S1x50 .f32) (harg6 : arg6.IsWhole) (arg7 : Memref sig .tc .vmem S1x50 .f32) (harg7 : arg7.IsWhole) (arg8 : Memref sig .tc .vmem S1x50 .f32) (harg8 : arg8.IsWhole) (arg9 : Memref sig .tc .vmem S1x1 .i32) (harg9 : arg9.IsWhole) (ya xa yb xb ar : FVec F S1x5120 .f32) (b0 b1 b2 b3 : FVec F S5120x1 .f32) (w : IVec S80x5120 32)
    (p : Picks F) :
    Scf.Loop.for k0_t1_loop k0_t1_ok p (k0_t1_body (F := F) arg0 harg0 arg1 harg1 arg2 harg2 arg3 harg3 arg4 harg4 arg5 harg5 arg6 harg6 arg7 harg7 arg8 harg8 arg9 harg9 ya xa yb xb ar b0 b1 b2 b3 w)
      = .ret ((Scf.fold (pick ya xa yb xb ar (k0_pay46 b0 b1 b2 b3) w) p).1,
          (Scf.fold (pick ya xa yb xb ar (k0_pay46 b0 b1 b2 b3) w) p).2.1,
          (Scf.fold (pick ya xa yb xb ar (k0_pay46 b0 b1 b2 b3) w) p).2.2.1,
          (Scf.fold (pick ya xa yb xb ar (k0_pay46 b0 b1 b2 b3) w) p).2.2.2.1,
          (Scf.fold (pick ya xa yb xb ar (k0_pay46 b0 b1 b2 b3) w) p).2.2.2.2.1,
          (Scf.fold (pick ya xa yb xb ar (k0_pay46 b0 b1 b2 b3) w) p).2.2.2.2.2) := by
  rw [body_pick]
  exact Scf.for_pure _ _ _ _ p _ _ fun _ _ => rfl

/-- The second loop is the return of a fold. -/
theorem loop_take (arg0 : Memref sig .tc .vmem S4x5120 .f32) (harg0 : arg0.IsWhole) (arg1 : Memref sig .tc .vmem S5120x4 .f32) (harg1 : arg1.IsWhole) (arg2 : Memref sig .tc .vmem S80x5120 .f32) (harg2 : arg2.IsWhole) (arg3 : Memref sig .tc .vmem S1x50 .f32) (harg3 : arg3.IsWhole) (arg4 : Memref sig .tc .vmem S1x50 .f32) (harg4 : arg4.IsWhole) (arg5 : Memref sig .tc .vmem S1x50 .f32) (harg5 : arg5.IsWhole) (arg6 : Memref sig .tc .vmem S1x50 .f32) (harg6 : arg6.IsWhole) (arg7 : Memref sig .tc .vmem S1x50 .f32) (harg7 : arg7.IsWhole) (arg8 : Memref sig .tc .vmem S1x50 .f32) (harg8 : arg8.IsWhole) (arg9 : Memref sig .tc .vmem S1x1 .i32) (harg9 : arg9.IsWhole) (c1 c2 c3 c4 : FVec F S80x50 .f32) (fl : IVec S80x50 32) (cn : FVec F S80x50 .f32) (ln : IVec S1x50 32)
    (p : Takes F) :
    Scf.Loop.for k0_t2_loop k0_t2_ok p (k0_t2_body (F := F) arg0 harg0 arg1 harg1 arg2 harg2 arg3 harg3 arg4 harg4 arg5 harg5 arg6 harg6 arg7 harg7 arg8 harg8 arg9 harg9 c1 c2 c3 c4 fl cn ln 0#32 1#32)
      = .ret ((Scf.fold (take c1 c2 c3 c4 fl cn ln 0#32 1#32) p).1,
          (Scf.fold (take c1 c2 c3 c4 fl cn ln 0#32 1#32) p).2.1,
          (Scf.fold (take c1 c2 c3 c4 fl cn ln 0#32 1#32) p).2.2.1,
          (Scf.fold (take c1 c2 c3 c4 fl cn ln 0#32 1#32) p).2.2.2.1,
          (Scf.fold (take c1 c2 c3 c4 fl cn ln 0#32 1#32) p).2.2.2.2.1,
          (Scf.fold (take c1 c2 c3 c4 fl cn ln 0#32 1#32) p).2.2.2.2.2.1,
          (Scf.fold (take c1 c2 c3 c4 fl cn ln 0#32 1#32) p).2.2.2.2.2.2) := by
  rw [body_take]
  exact Scf.for_pure _ _ _ _ p _ _ fun _ _ => rfl

/-! ## What the kernel leaves -/

abbrev rRow0 : Rect S4x5120 := Rect.unit (s := S4x5120) ![0, 0] S1x5120.size inb_S4x5120_S1x5120_0_0
abbrev rRow1 : Rect S4x5120 := Rect.unit (s := S4x5120) ![1, 0] S1x5120.size inb_S4x5120_S1x5120_1_0
abbrev rRow2 : Rect S4x5120 := Rect.unit (s := S4x5120) ![2, 0] S1x5120.size inb_S4x5120_S1x5120_2_0
abbrev rRow3 : Rect S4x5120 := Rect.unit (s := S4x5120) ![3, 0] S1x5120.size inb_S4x5120_S1x5120_3_0
abbrev rCol0 : Rect S5120x4 := Rect.unit (s := S5120x4) ![0, 0] S5120x1.size inb_S5120x4_S5120x1_0_0
abbrev rCol1 : Rect S5120x4 := Rect.unit (s := S5120x4) ![0, 1] S5120x1.size inb_S5120x4_S5120x1_0_1
abbrev rCol2 : Rect S5120x4 := Rect.unit (s := S5120x4) ![0, 2] S5120x1.size inb_S5120x4_S5120x1_0_2
abbrev rCol3 : Rect S5120x4 := Rect.unit (s := S5120x4) ![0, 3] S5120x1.size inb_S5120x4_S5120x1_0_3
abbrev rScore : Rect S80x5120 := Rect.unit (s := S80x5120) ![0, 0] S80x5120.size inb_S80x5120_S80x5120_0_0
abbrev rLine : Rect S1x50 := Rect.unit (s := S1x50) ![0, 0] S1x50.size inb_S1x50_S1x50_0_0
abbrev rOne : Rect S1x1 := Rect.unit (s := S1x1) ![0, 0] S1x1.size inb_S1x1_S1x1_0_0

/-- The suppression's round over the input blocks: the corner rows come from the first block, the corner table from the second. -/
def round (x0 : Vec F S4x5120 .f32) (x1 : Vec F S5120x4 .f32) (x2 : Vec F S80x5120 .f32) : Fin k0_t1_loop.trips → Picks F → Picks F :=
  pick (k0_pay37 (View.ld x0 rRow1) (View.ld x0 rRow3)) (k0_pay38 (View.ld x0 rRow0) (View.ld x0 rRow2))
    (k0_pay39 (View.ld x0 rRow1) (View.ld x0 rRow3)) (k0_pay40 (View.ld x0 rRow0) (View.ld x0 rRow2))
    (k0_pay41 (View.ld x0 rRow0) (View.ld x0 rRow1) (View.ld x0 rRow2) (View.ld x0 rRow3))
    (k0_pay46 (k0_pay42 (View.ld x1 rCol0)) (k0_pay43 (View.ld x1 rCol1)) (k0_pay44 (View.ld x1 rCol2)) (k0_pay45 (View.ld x1 rCol3))) cols

/-- What the suppression starts from. -/
def start (x0 : Vec F S4x5120 .f32) (x1 : Vec F S5120x4 .f32) (x2 : Vec F S80x5120 .f32) : Picks F :=
  (k0_pay47 (View.ld x2 rScore) (View.ld x2 rScore), k0_pay49, k0_pay48, k0_pay48, k0_pay48, k0_pay48)

/-- The first loop's result. -/
def picked (x0 : Vec F S4x5120 .f32) (x1 : Vec F S5120x4 .f32) (x2 : Vec F S80x5120 .f32) : Picks F :=
  Scf.fold (round x0 x1 x2) (start x0 x1 x2)

/-- The second loop's result. -/
def merged (x0 : Vec F S4x5120 .f32) (x1 : Vec F S5120x4 .f32) (x2 : Vec F S80x5120 .f32) : Takes F :=
  Scf.fold (take (picked x0 x1 x2).2.2.1 (picked x0 x1 x2).2.2.2.1 (picked x0 x1 x2).2.2.2.2.1 (picked x0 x1 x2).2.2.2.2.2 k0_pay57 k0_pay58 lanes
      0#32 1#32)
    ((picked x0 x1 x2).2.1, k0_pay59, k0_pay59, k0_pay59, k0_pay59, k0_pay59, k0_pay59)

/-- The scores row after the body, of the three input blocks. -/
def left3 (x0 : Vec F S4x5120 .f32) (x1 : Vec F S5120x4 .f32) (x2 : Vec F S80x5120 .f32) : Vec F S1x50 .f32 := View.canon [⟨rLine, k0_pay10 (merged x0 x1 x2).2.1⟩]

/-- The classes row after the body, of the three input blocks. -/
def left4 (x0 : Vec F S4x5120 .f32) (x1 : Vec F S5120x4 .f32) (x2 : Vec F S80x5120 .f32) : Vec F S1x50 .f32 := View.canon [⟨rLine, k0_pay11 (merged x0 x1 x2).2.1 (merged x0 x1 x2).2.2.1⟩]

/-- The lower y corners row after the body, of the three input blocks. -/
def left5 (x0 : Vec F S4x5120 .f32) (x1 : Vec F S5120x4 .f32) (x2 : Vec F S80x5120 .f32) : Vec F S1x50 .f32 := View.canon [⟨rLine, k0_pay12 (merged x0 x1 x2).2.1 (merged x0 x1 x2).2.2.2.1⟩]

/-- The lower x corners row after the body, of the three input blocks. -/
def left6 (x0 : Vec F S4x5120 .f32) (x1 : Vec F S5120x4 .f32) (x2 : Vec F S80x5120 .f32) : Vec F S1x50 .f32 := View.canon [⟨rLine, k0_pay13 (merged x0 x1 x2).2.1 (merged x0 x1 x2).2.2.2.2.1⟩]

/-- The upper y corners row after the body, of the three input blocks. -/
def left7 (x0 : Vec F S4x5120 .f32) (x1 : Vec F S5120x4 .f32) (x2 : Vec F S80x5120 .f32) : Vec F S1x50 .f32 := View.canon [⟨rLine, k0_pay14 (merged x0 x1 x2).2.1 (merged x0 x1 x2).2.2.2.2.2.1⟩]

/-- The upper x corners row after the body, of the three input blocks. -/
def left8 (x0 : Vec F S4x5120 .f32) (x1 : Vec F S5120x4 .f32) (x2 : Vec F S80x5120 .f32) : Vec F S1x50 .f32 := View.canon [⟨rLine, k0_pay15 (merged x0 x1 x2).2.1 (merged x0 x1 x2).2.2.2.2.2.2⟩]

/-- The number of valid rows row after the body, of the three input blocks. -/
def left9 (x0 : Vec F S4x5120 .f32) (x1 : Vec F S5120x4 .f32) (x2 : Vec F S80x5120 .f32) : Vec F S1x1 .i32 := View.canon [⟨rOne, k0_pay9 (merged x0 x1 x2).2.1⟩]

/-- One store covers a row buffer. -/
theorem tileLine (p : Vec F S1x50 .f32) (y : S1x50.Idx) : ∃ pc ∈ ([⟨rLine, p⟩] : List (View.Piece (Elt F) S1x50 .f32)), y ∈ pc.1.set :=
  View.cover_of_tiled [⟨rLine, p⟩] S1x50.size (by rfl) y

/-- One store covers the count's buffer. -/
theorem tileOne (p : Vec F S1x1 .i32) (y : S1x1.Idx) : ∃ pc ∈ ([⟨rOne, p⟩] : List (View.Piece (Elt F) S1x1 .i32)), y ∈ pc.1.set :=
  View.cover_of_tiled [⟨rOne, p⟩] S1x1.size (by rfl) y

set_option maxHeartbeats 2000000 in
/-- The body's triple: the three inputs keep their contents, the seven outputs end at `left3` … `left9` of them. -/
theorem kernel_triple (c : Dev nD) (E : Set ℕ) (arg0 : Memref sig .tc .vmem S4x5120 .f32) (harg0 : arg0.IsWhole) (arg1 : Memref sig .tc .vmem S5120x4 .f32) (harg1 : arg1.IsWhole) (arg2 : Memref sig .tc .vmem S80x5120 .f32) (harg2 : arg2.IsWhole) (arg3 : Memref sig .tc .vmem S1x50 .f32) (harg3 : arg3.IsWhole) (arg4 : Memref sig .tc .vmem S1x50 .f32) (harg4 : arg4.IsWhole) (arg5 : Memref sig .tc .vmem S1x50 .f32) (harg5 : arg5.IsWhole) (arg6 : Memref sig .tc .vmem S1x50 .f32) (harg6 : arg6.IsWhole) (arg7 : Memref sig .tc .vmem S1x50 .f32) (harg7 : arg7.IsWhole) (arg8 : Memref sig .tc .vmem S1x50 .f32) (harg8 : arg8.IsWhole) (arg9 : Memref sig .tc .vmem S1x1 .i32) (harg9 : arg9.IsWhole)
    (x0 : Vec F S4x5120 .f32) (x1 : Vec F S5120x4 .f32) (x2 : Vec F S80x5120 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare (left3 x0 x1 x2) ∗ owns (c : Thread nD τ) arg4 fullShare (left4 x0 x1 x2) ∗ owns (c : Thread nD τ) arg5 fullShare (left5 x0 x1 x2) ∗ owns (c : Thread nD τ) arg6 fullShare (left6 x0 x1 x2) ∗ owns (c : Thread nD τ) arg7 fullShare (left7 x0 x1 x2) ∗ owns (c : Thread nD τ) arg8 fullShare (left8 x0 x1 x2) ∗ owns (c : Thread nD τ) arg9 fullShare (left9 x0 x1 x2)) -∗ K ⟨⟩))
      ⊢ wp frame (wpE (defs₀ (F := F)) Variants.none c none) E (cc0__nms_merge_kernel arg0 harg0 arg1 harg1 arg2 harg2 arg3 harg3 arg4 harg4 arg5 harg5 arg6 harg6 arg7 harg7 arg8 harg8 arg9 harg9) K := by
  simp only [cc0__nms_merge_kernel_eq_skeleton]; unfold cc0__nms_merge_kernel_skel
  simp only [k0_part3_eq_skeleton, k0_part4_eq_skeleton]
  unfold k0_part3_skel k0_part4_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, Hk⟩
  subst hf0 hf1 hf2
  sl_exec
  simp only [loop_pick]
  sl_exec
  simp only [loop_take]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (tileLine _)).trans ?_
    rfl
  isplitl [H4]
  · iexists _; isplitr
    swap; · iexact H4
    ipureintro
    refine (View.read_writes_eq_canon _ _ _ (tileLine _)).trans ?_
    rfl
  isplitl [H5]
  · iexists _; isplitr
    swap; · iexact H5
    ipureintro
    refine (View.read_writes_eq_canon _ _ _ (tileLine _)).trans ?_
    rfl
  isplitl [H6]
  · iexists _; isplitr
    swap; · iexact H6
    ipureintro
    refine (View.read_writes_eq_canon _ _ _ (tileLine _)).trans ?_
    rfl
  isplitl [H7]
  · iexists _; isplitr
    swap; · iexact H7
    ipureintro
    refine (View.read_writes_eq_canon _ _ _ (tileLine _)).trans ?_
    rfl
  isplitl [H8]
  · iexists _; isplitr
    swap; · iexact H8
    ipureintro
    refine (View.read_writes_eq_canon _ _ _ (tileLine _)).trans ?_
    rfl
  iexists _; isplitr
  swap; · iexact H9
  ipureintro
  refine (View.read_writes_eq_canon _ _ _ (tileOne _)).trans ?_
  rfl

/-! ## The launch -/

variable (m : (ℓ : Loc nD τ sig) → Buf (Elt F) ℓ) (ρ : Dev nD → PrngReg)

/-- The pipeline's data: the arrays as the launch finds them, and after the body the inputs' blocks and the outputs' `left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => left3 (iblk m c 0 t) (iblk m c 1 t) (iblk m c 2 t)
    | ⟨4, _⟩ => left4 (iblk m c 0 t) (iblk m c 1 t) (iblk m c 2 t)
    | ⟨5, _⟩ => left5 (iblk m c 0 t) (iblk m c 1 t) (iblk m c 2 t)
    | ⟨6, _⟩ => left6 (iblk m c 0 t) (iblk m c 1 t) (iblk m c 2 t)
    | ⟨7, _⟩ => left7 (iblk m c 0 t) (iblk m c 1 t) (iblk m c 2 t)
    | ⟨8, _⟩ => left8 (iblk m c 0 t) (iblk m c 1 t) (iblk m c 2 t)
    | ⟨9, _⟩ => left9 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = left3 (iblk m c 0 t) (iblk m c 1 t) (iblk m c 2 t) := by dsimp only [dats]
theorem after_4 (c : Dev nD) (t : Fin cfg0.N) :
    (dats m 0 c).after 4 t = left4 (iblk m c 0 t) (iblk m c 1 t) (iblk m c 2 t) := by dsimp only [dats]
theorem after_5 (c : Dev nD) (t : Fin cfg0.N) :
    (dats m 0 c).after 5 t = left5 (iblk m c 0 t) (iblk m c 1 t) (iblk m c 2 t) := by dsimp only [dats]
theorem after_6 (c : Dev nD) (t : Fin cfg0.N) :
    (dats m 0 c).after 6 t = left6 (iblk m c 0 t) (iblk m c 1 t) (iblk m c 2 t) := by dsimp only [dats]
theorem after_7 (c : Dev nD) (t : Fin cfg0.N) :
    (dats m 0 c).after 7 t = left7 (iblk m c 0 t) (iblk m c 1 t) (iblk m c 2 t) := by dsimp only [dats]
theorem after_8 (c : Dev nD) (t : Fin cfg0.N) :
    (dats m 0 c).after 8 t = left8 (iblk m c 0 t) (iblk m c 1 t) (iblk m c 2 t) := by dsimp only [dats]
theorem after_9 (c : Dev nD) (t : Fin cfg0.N) :
    (dats m 0 c).after 9 t = left9 (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body starts from at a point of the grid (there is one). -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

theorem body_runs (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (kernel_triple c Set.univ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The table's entry for the body is the body. -/
theorem body_row (t : Fin cfg0.N) : defs₀ (F := F) .tc cfg0.body (cfg0.bodyArgs t (cfg0.slots t)) = bodyAt0 t := by
  unfold defs₀; rw [Defs.onTc_tc]

theorem body_meets (c : Dev nD) : BodyObligation (dats (F := F) m 0 c) (defs₀ (F := F)) Variants.none () Set.univ := fun t => by
  rw [bigSep_W0, bigSep_W0, body_row]
  exact triple_restated (body_runs m c t) rfl .rfl fun _ => .rfl

set_option backward.isDefEq.respectTransparency.types false in
set_option maxHeartbeats 800000 in
/-- The whole program runs to its end, with the arrays as the data say and every semaphore at zero. -/
theorem run : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_meets m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged and the semaphores at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.KernelIdeal.Run

end
-- ==== Proof.ReferenceSteps.lean ====
/-
  The reference's run, trip by trip.

  `At V s j`: the buffers the loop carries hold the state `s`, and the two counters the number `j`.  One trip takes
  `At V s j` to `At` of the next state; so after fifty trips the results are read off the fiftieth state.
-/
module
public import proofs.«01_k».proof.Proof.Gen.ReferenceIdeal.Run
public import proofs.«01_k».proof.Proof.Gen.ReferenceIdeal.Step
@[expose] public section
noncomputable section
namespace Cert.ReferenceIdeal.Steps
open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)
variable {F : FTy → Type} [FloatOps F]

/-- The carried buffers hold the state `s`, the two counters the number `j`. -/
structure At (V : Valuation τ sig (Elt F)) (s : State F) (j : ℕ) : Prop where
  score : V (Proc.devRef .tc main_v23_3) = s.main_v23_3
  index : V (Proc.devRef .tc main_v23_4) = s.main_v23_4
  best : V (Proc.devRef .tc main_v23_5) = s.main_v23_5
  corner : V (Proc.devRef .tc main_v23_0) = s.main_v23_0
  trip : V (Proc.devRef .tc main_v23_1) = constantI S_ 32 (BitVec.ofNat 32 j)
  place : V (Proc.devRef .tc main_v23_2) = constantI S_ 32 (BitVec.ofNat 32 j)

variable {V : Valuation τ sig (Elt F)} {s : State F} {j : ℕ}

set_option maxRecDepth 65536 in
theorem score_next (h : At V s j) : step_main_v23_3 V = (step j s).main_v23_3 := by
  obtain ⟨a, b, c, d⟩ := s
  obtain ⟨h3, h4, h5, h0, h1, h2⟩ := h
  dsimp only at h3 h4 h5 h0
  subst h3 h4 h5 h0
  rfl

set_option maxRecDepth 65536 in
theorem index_next (h : At V s j) : step_main_v23_4 V = (step j s).main_v23_4 := by
  obtain ⟨a, b, c, d⟩ := s
  obtain ⟨h3, h4, h5, h0, h1, h2⟩ := h
  dsimp only at h3 h4 h5 h0
  subst h3 h4 h5 h0
  unfold step_main_v23_4
  rw [h2]
  rfl

set_option maxRecDepth 65536 in
theorem best_next (h : At V s j) : step_main_v23_5 V = (step j s).main_v23_5 := by
  obtain ⟨a, b, c, d⟩ := s
  obtain ⟨h3, h4, h5, h0, h1, h2⟩ := h
  dsimp only at h3 h4 h5 h0
  subst h3 h4 h5 h0
  unfold step_main_v23_5
  rw [h2]
  rfl

theorem trip_next (h : At V s j) : step_main_v23_1 V = constantI S_ 32 (BitVec.ofNat 32 (j + 1)) := by
  unfold step_main_v23_1
  rw [h.trip]
  funext i
  exact (BitVec.ofNat_add _ _).symm

theorem place_next (h : At V s j) : step_main_v23_2 V = constantI S_ 32 (BitVec.ofNat 32 (j + 1)) := by
  unfold step_main_v23_2
  rw [h.place]
  funext i
  exact (BitVec.ofNat_add _ _).symm

/-- One trip of the loop takes the state to the next. -/
theorem at_next (h : At V s j) : At (STEP V) (step j s) (j + 1) where
  score := (STEP_main_v23_3 V).trans (score_next h)
  index := (STEP_main_v23_4 V).trans (index_next h)
  best := (STEP_main_v23_5 V).trans (best_next h)
  corner := (STEP_main_v23_0 V).trans h.corner
  trip := (STEP_main_v23_1 V).trans (trip_next h)
  place := (STEP_main_v23_2 V).trans (place_next h)

/-- The states the loop goes through, of the two arguments. -/
def states (a : (⟨S1x5000x4, .f32⟩ : BufTy).Contents (Elt F)) (b : (⟨S1x5000x80, .f32⟩ : BufTy).Contents (Elt F)) : ℕ → State F
  | 0 => init a b
  | n + 1 => step n (states a b n)

variable (m : (ℓ : Loc nD τ sig) → Buf (Elt F) ℓ) (c : Dev nD)

set_option maxRecDepth 65536 in
set_option maxHeartbeats 300000 in
/-- Before the loop the buffers hold the first state. -/
theorem at_entry : At (entryContents preI m c)
    (states (m ((c.tc : Thread nD τ).loc main_arg0)) (m ((c.tc : Thread nD τ).loc main_arg1)) 0) 0 := by
  constructor <;> (simp only [entryContents, afterL_cons, afterL_nil]; after_reads_simp) <;> rfl

/-- After `k` trips they hold state number `k`. -/
theorem at_trip (k : ℕ) : At (STEP^[k] (entryContents preI m c))
    (states (m ((c.tc : Thread nD τ).loc main_arg0)) (m ((c.tc : Thread nD τ).loc main_arg1)) k) k := by
  induction k with
  | zero => exact at_entry m c
  | succ k ih => rw [Function.iterate_succ_apply']; exact at_next ih

set_option maxRecDepth 65536 in
theorem boxes_at (h : At V s j) {a : (⟨S1x5000x4, .f32⟩ : BufTy).Contents (Elt F)} (ha : V (Proc.devRef .tc main_arg0) = a) :
    out_main_v75 V = Cert.ReferenceIdeal.Step.R_main_v75 s a := by
  unfold out_main_v75 Cert.ReferenceIdeal.Step.R_main_v75
  rw [h.best, h.index, ha]

set_option maxRecDepth 65536 in
theorem scores_at (h : At V s j) : out_main_v76 V = Cert.ReferenceIdeal.Step.R_main_v76 s := by
  unfold out_main_v76 Cert.ReferenceIdeal.Step.R_main_v76
  rw [h.best]

set_option maxRecDepth 65536 in
theorem classes_at (h : At V s j) : out_main_v77 V = Cert.ReferenceIdeal.Step.R_main_v77 s := by
  unfold out_main_v77 Cert.ReferenceIdeal.Step.R_main_v77
  rw [h.best]

set_option maxRecDepth 65536 in
theorem count_at (h : At V s j) : out_main_v78 V = Cert.ReferenceIdeal.Step.R_main_v78 s := by
  unfold out_main_v78 Cert.ReferenceIdeal.Step.R_main_v78
  rw [h.best]

/-- The reference ends with its four results read off state number fifty, and its arguments as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v75)
          = Cert.ReferenceIdeal.Step.R_main_v75 (states (m ((c.tc : Thread nD τ).loc main_arg0)) (m ((c.tc : Thread nD τ).loc main_arg1)) 50)
              (m ((c.tc : Thread nD τ).loc main_arg0))
      ∧ r.2.mem ((c.tc : Thread nD τ).loc main_v76)
          = Cert.ReferenceIdeal.Step.R_main_v76 (states (m ((c.tc : Thread nD τ).loc main_arg0)) (m ((c.tc : Thread nD τ).loc main_arg1)) 50)
      ∧ r.2.mem ((c.tc : Thread nD τ).loc main_v77)
          = Cert.ReferenceIdeal.Step.R_main_v77 (states (m ((c.tc : Thread nD τ).loc main_arg0)) (m ((c.tc : Thread nD τ).loc main_arg1)) 50)
      ∧ r.2.mem ((c.tc : Thread nD τ).loc main_v78)
          = Cert.ReferenceIdeal.Step.R_main_v78 (states (m ((c.tc : Thread nD τ).loc main_arg0)) (m ((c.tc : Thread nD τ).loc main_arg1)) 50)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ?_) (Value.run m ρ)
  obtain ⟨h1, h2, h3, h4, h5, h6⟩ := h c
  have ht := at_trip m c 50
  exact ⟨h1.trans (boxes_at ht (iter_main_arg0 m c 50)), h2.trans (scores_at ht), h3.trans (classes_at ht), h4.trans (count_at ht), h5, h6⟩

/-- The arguments end unchanged and the semaphores at zero. -/
theorem quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).2.2.2.2.1, (h c).2.2.2.2.2⟩, sem_eq_zero_of_no_sems (by decide) r.2⟩) (run m ρ)

end Cert.ReferenceIdeal.Steps

end
-- ==== Proof.Order.lean ====
/-
  Ranking finitely many extended reals: the greatest first, equal values by position.

  `rank f i` is the position of the `i`-th value in that order, as the stable sort behind `top_k` finds it.  `rank_before`
  says the order is kept, `rank_least` that what is left after the first `r` never precedes the `r`-th.
-/
module

public import Idealize.ShloMosaic.Lib.SortFacts
public import Idealize.ShloMosaic.Lib.Pointwise
public import Idealize.ShloMosaic.Lib.ValueIdx

@[expose] public section

noncomputable section

namespace Cert.Value

open Idealize.ShloMosaic

variable {n : ℕ} (f : Fin n → EReal)

/-- `x` comes before `y`: its value is greater, or the values are equal and its position is lower. -/
def Ahead (x y : Fin n) : Prop := f y < f x ∨ (f x = f y ∧ x < y)

/-- Putting a position into a list in order, all of whose members come later by position, keeps the order. -/
theorem ahead_insert (a : Fin n) (l : List (Fin n)) (hl : l.Pairwise (Ahead f)) (ha : ∀ b ∈ l, a < b) :
    (insertBefore (fun x y => decide (f y < f x)) a l).Pairwise (Ahead f) := by
  induction l with
  | nil => exact List.pairwise_singleton _ _
  | cons b l ih =>
    rw [insertBefore]
    have hl' := List.pairwise_cons.mp hl
    by_cases h : f a < f b
    · simp only [h, decide_true, if_true]
      refine List.pairwise_cons.mpr ⟨?_, ih hl'.2 fun x hx => ha x (List.mem_cons_of_mem _ hx)⟩
      intro x hx
      have := (perm_insertBefore _ a l).mem_iff.mp hx
      rcases List.mem_cons.mp this with e | e
      · exact Or.inl (e ▸ h)
      · exact hl'.1 x e
    · simp only [h, decide_false, if_false, Bool.false_eq_true]
      refine List.pairwise_cons.mpr ⟨fun x hx => ?_, hl⟩
      have hb : f b ≤ f a := not_lt.mp h
      have hx' : f x ≤ f b := by
        rcases List.mem_cons.mp hx with e | e
        · exact e ▸ le_refl _
        · rcases hl'.1 x e with u | u
          · exact u.le
          · exact u.1.ge
      rcases lt_or_eq_of_le (hx'.trans hb) with u | u
      · exact Or.inl u
      · exact Or.inr ⟨u.symm, ha x hx⟩

/-- The stable sort of positions listed in order is in order. -/
theorem ahead_sort (l : List (Fin n)) (hl : l.Pairwise (· < ·)) :
    (stableSort (fun x y => decide (f y < f x)) l).Pairwise (Ahead f) := by
  induction l with
  | nil => exact List.Pairwise.nil
  | cons a l ih =>
    have h := List.pairwise_cons.mp hl
    rw [stableSort]
    exact ahead_insert f a _ (ih h.2) fun b hb => h.1 b ((perm_stableSort _ l).mem_iff.mp hb)

/-- The position of the `i`-th value, the greatest first and equal values by position. -/
def rank (i : Fin n) : Fin n := sortedFrom (fun k k' => decide (f k' < f k)) i

theorem rank_ahead {i j : Fin n} (h : i < j) : Ahead f (rank f i) (rank f j) := by
  have hs := ahead_sort f (List.finRange n) (List.pairwise_lt_finRange n)
  exact List.pairwise_iff_get.mp hs _ _ h

theorem ahead_irrefl (x : Fin n) : ¬ Ahead f x x := by
  rintro (h | h)
  · exact lt_irrefl _ h
  · exact lt_irrefl _ h.2

theorem rank_inj : Function.Injective (rank f) := by
  intro i j h
  rcases lt_trichotomy i j with u | u | u
  · exact absurd (h ▸ rank_ahead f u) (ahead_irrefl f _)
  · exact u
  · exact absurd (h ▸ rank_ahead f u) (ahead_irrefl f _)

/-- What is not among the first `r` is the `r`-th or comes after it. -/
theorem rank_least (r x : Fin n) (h : ∀ i < r, rank f i ≠ x) : rank f r = x ∨ Ahead f (rank f r) x := by
  obtain ⟨k, rfl⟩ := (Finite.injective_iff_surjective.mp (rank_inj f)) x
  rcases lt_trichotomy k r with u | u | u
  · exact absurd rfl (h k u)
  · exact Or.inl (u ▸ rfl)
  · exact Or.inr (rank_ahead f u)

theorem rank_max (r x : Fin n) (h : ∀ i < r, rank f i ≠ x) : f x ≤ f (rank f r) := by
  rcases rank_least f r x h with u | u | u
  · exact u ▸ le_refl _
  · exact u.le
  · exact u.1.ge

theorem rank_first (r x : Fin n) (h : ∀ i < r, rank f i ≠ x) (e : f x = f (rank f r)) : rank f r ≤ x := by
  rcases rank_least f r x h with u | u | u
  · exact u ▸ le_refl _
  · exact absurd u (e ▸ lt_irrefl _)
  · exact u.2.le

/-- The position of the greatest value, the lowest of them if there are several. -/
def first [NeZero n] : Fin n := rank f 0

theorem first_max [NeZero n] (x : Fin n) : f x ≤ f (first f) :=
  rank_max f 0 x fun i h => absurd h (Fin.not_lt_zero i)

theorem first_le [NeZero n] (x : Fin n) (e : f x = f (first f)) : first f ≤ x :=
  rank_first f 0 x (fun i h => absurd h (Fin.not_lt_zero i)) e

/-- The sort that `top_k` makes of its operand's entries, read as `rank`. -/
theorem sortedFrom_gt {φ : FTy} (x : Fin n → Ideal φ) (i : Fin n) :
    sortedFrom (fun k k' => FloatOps.cmpfTotal .gt (x k) (x k') == 1#1) i = rank (fun k => (x k : EReal)) i := by
  unfold rank
  congr 1
  funext k k'
  show (Ideal.cmp .ogt (x k) (x k') == 1#1) = _
  unfold Ideal.cmp
  by_cases h : (x k' : EReal) < x k <;> simp [h]

end Cert.Value

end
-- ==== Proof.Spec.lean ====
/-
  The suppression of one class, as plain functions of the corners `K` and the scores `s` of `n` boxes.

  A round takes the box with the greatest score, the lowest position among equals, and writes −1 over the scores of that
  box and, if its score is above zero, of the boxes it overlaps by more than 0.45.
-/
module

public import proofs.«01_k».proof.Proof.Order

@[expose] public section

noncomputable section

namespace Cert.Value

open Idealize.ShloMosaic

/-- The score of a struck box, −1. -/
abbrev low : EReal := Ideal.ofBits .f32 0xBF800000#32

/-- The overlap of two boxes by their corners (y and x of the one, then of the opposite corner). -/
def over (p q : Fin 4 → EReal) : EReal :=
  Ideal.div (max 0 (min (p 2) (q 2) - max (p 0) (q 0)) * max 0 (min (p 3) (q 3) - max (p 1) (q 1)))
    ((p 2 - p 0) * (p 3 - p 1) + (q 2 - q 0) * (q 3 - q 1)
      - max 0 (min (p 2) (q 2) - max (p 0) (q 0)) * max 0 (min (p 3) (q 3) - max (p 1) (q 1))
      + Ideal.ofBits .f32 0x322BCC77#32)

variable {n : ℕ} [NeZero n]

/-- The scores after one round. -/
def struck (K : Fin n → Fin 4 → EReal) (s : Fin n → EReal) (j : Fin n) : EReal :=
  if j = first s ∨ (Ideal.ofBits .f32 0x3EE66666#32 < over (K (first s)) (K j) ∧ 0 < s (first s)) then low else s j

/-- The scores after `i` rounds. -/
def after (K : Fin n → Fin 4 → EReal) (s : Fin n → EReal) : ℕ → Fin n → EReal
  | 0 => s
  | i + 1 => struck K (after K s i)

/-- The box round `i` takes. -/
def taken (K : Fin n → Fin 4 → EReal) (s : Fin n → EReal) (i : ℕ) : Fin n := first (after K s i)

/-- Its score. -/
def takenScore (K : Fin n → Fin 4 → EReal) (s : Fin n → EReal) (i : ℕ) : EReal := after K s i (taken K s i)

/-- No score goes below −1. -/
theorem low_le_after (K : Fin n → Fin 4 → EReal) (s : Fin n → EReal) (h : ∀ j, low ≤ s j) (i : ℕ) (j : Fin n) :
    low ≤ after K s i j := by
  induction i generalizing j with
  | zero => exact h j
  | succ i ih =>
    show low ≤ struck K (after K s i) j
    unfold struck
    split
    · exact le_refl _
    · exact ih j

/-- The score a round takes is at least −1. -/
theorem low_le_takenScore (K : Fin n → Fin 4 → EReal) (s : Fin n → EReal) (h : ∀ j, low ≤ s j) (i : ℕ) :
    low ≤ takenScore K s i := low_le_after K s h i _

end Cert.Value

end
-- ==== Proof.Folds.lean ====
/-
  What the kernel's reductions and its counted loops come to: the greatest of a family, the least of a family of words,
  the one term a 0/1 weight keeps, and a fact kept by every trip of a loop.
-/
module

public import proofs.«01_k».proof.Proof.Spec
public import Idealize.ShloMosaic.Lib.Pointwise
public import Idealize.ShloMosaic.Lib.SortNet.Extract
public import Idealize.ShloMosaic.Lib.KernelVsHost
public import Idealize.ShloMosaic.Lib.WordCmp

@[expose] public section

noncomputable section

namespace Cert.Value

open Idealize.ShloMosaic

/-- Two small numbers compared as words. -/
theorem cmpi_number (a b : ℕ) (ha : a < 2 ^ 32) (hb : b < 2 ^ 32) (p : Prop) [Decidable p] (h : a = b ↔ p) :
    IntOp.cmpi .eq (BitVec.ofNat 32 a) (BitVec.ofNat 32 b) = BitVec.ofBool (decide p) := by
  have e : (BitVec.ofNat 32 a == BitVec.ofNat 32 b) = decide p := by
    rw [Bool.eq_iff_iff, beq_iff_eq, WordCmp.ofNat_eq_ofNat_iff ha hb, decide_eq_true_iff, h]
  exact congrArg BitVec.ofBool e

/-- The word of −∞ is the least value. -/
theorem bottom_word : Ideal.ofBits .f32 0xFF800000#32 = (⊥ : EReal) := by
  simp [Ideal.ofBits, Ideal.ieee]

/-- The greatest of a family, when one of them is known to be it. -/
theorem fold_max_top {ι : Type*} [Fintype ι] [DecidableEq ι] (f : ι → EReal) (p : ι) (h : ∀ x, f x ≤ f p) :
    Finset.fold max (Ideal.ofBits .f32 0xFF800000#32) f Finset.univ = f p := by
  apply le_antisymm
  · rw [Finset.fold_max_le]
    exact ⟨by rw [bottom_word]; exact bot_le, fun x _ => h x⟩
  · rw [Finset.le_fold_max]
    exact Or.inr ⟨p, Finset.mem_univ p, le_refl _⟩

theorem fold_minsi_spec {ι : Type*} [DecidableEq ι] (f : ι → BitVec 32) (s : Finset ι) (z : BitVec 32) :
    (∀ i ∈ s, (s.fold IntOp.minsi z f).toInt ≤ (f i).toInt) ∧
      (s.fold IntOp.minsi z f = z ∨ ∃ i ∈ s, s.fold IntOp.minsi z f = f i) := by
  induction s using Finset.induction_on with
  | empty => exact ⟨fun i hi => absurd hi (Finset.notMem_empty i), Or.inl (Finset.fold_empty)⟩
  | insert a s ha ih =>
    obtain ⟨h1, h2⟩ := ih
    rw [Finset.fold_insert ha]
    have hm := SortNet.toInt_minsi (f a) (s.fold IntOp.minsi z f)
    refine ⟨fun i hi => ?_, ?_⟩
    · rw [hm]
      rcases Finset.mem_insert.mp hi with rfl | hi
      · exact min_le_left _ _
      · exact (min_le_right _ _).trans (h1 i hi)
    · have hc : IntOp.minsi (f a) (s.fold IntOp.minsi z f) = f a
          ∨ IntOp.minsi (f a) (s.fold IntOp.minsi z f) = s.fold IntOp.minsi z f := by
        unfold IntOp.minsi
        split
        · exact Or.inl rfl
        · exact Or.inr rfl
      rcases hc with hc | hc
      · exact Or.inr ⟨a, Finset.mem_insert_self a s, hc⟩
      · rw [hc]
        rcases h2 with h2 | ⟨i, hi, h2⟩
        · exact Or.inl h2
        · exact Or.inr ⟨i, Finset.mem_insert_of_mem hi, h2⟩

/-- The least of a family of words, when one of them is known to be it. -/
theorem fold_min_least {ι : Type*} [Fintype ι] [DecidableEq ι] (f : ι → BitVec 32) (p : ι)
    (h : ∀ x, (f p).toInt ≤ (f x).toInt) : Finset.fold IntOp.minsi 2147483647#32 f Finset.univ = f p := by
  obtain ⟨h1, h2⟩ := fold_minsi_spec f Finset.univ 2147483647#32
  apply BitVec.eq_of_toInt_eq
  apply le_antisymm (h1 p (Finset.mem_univ p))
  rcases h2 with h2 | ⟨i, _, h2⟩
  · rw [h2]
    have := BitVec.toInt_lt (x := f p)
    have e : (2147483647#32).toInt = 2147483647 := by decide
    rw [e]; omega
  · rw [h2]; exact h i

/-- A condition as a float, one. -/
theorem weight_one (φ : FTy) : (FloatOps.sitofp φ (BitVec.setWidth 32 1#1) : Ideal φ) = (1 : EReal) := by
  show ((((BitVec.setWidth 32 1#1 : BitVec 32).toInt : ℤ) : ℝ) : EReal) = 1
  have e : (BitVec.setWidth 32 1#1 : BitVec 32).toInt = 1 := by decide
  rw [e]; simp

/-- A condition as a float, zero. -/
theorem weight_zero (φ : FTy) : (FloatOps.sitofp φ (BitVec.setWidth 32 0#1) : Ideal φ) = (0 : EReal) := by
  show ((((BitVec.setWidth 32 0#1 : BitVec 32).toInt : ℤ) : ℝ) : EReal) = 0
  have e : (BitVec.setWidth 32 0#1 : BitVec 32).toInt = 0 := by decide
  rw [e]; simp

/-- A sum weighted by the condition "is `p`" is the term at `p`. -/
theorem sum_weight {ι : Type*} [Fintype ι] [DecidableEq ι] (w : ι → BitVec 1) (b : ι → EReal) (p : ι) (hp : w p = 1#1)
    (h : ∀ x, x ≠ p → w x = 0#1) :
    (∑ x, (FloatOps.sitofp (F := Ideal) .f32 (BitVec.setWidth 32 (w x)) : EReal) * b x) = b p := by
  rw [Finset.sum_eq_single p]
  · rw [hp, weight_one, one_mul]
  · intro x _ hx; rw [h x hx, weight_zero, zero_mul]
  · intro hp; exact absurd (Finset.mem_univ p) hp

/-- A sum of a family that is zero but at `p`. -/
theorem sum_select {ι : Type*} [Fintype ι] [DecidableEq ι] (w : ι → BitVec 1) (b : ι → EReal) (z : EReal) (hz : z = 0) (p : ι) (hp : w p = 1#1)
    (h : ∀ x, x ≠ p → w x = 0#1) : (∑ x, (Scalar.select (w x) (b x) z : EReal)) = b p := by
  rw [Finset.sum_eq_single p]
  · rw [hp]; rfl
  · intro x _ hx; rw [h x hx]; exact hz
  · intro hp; exact absurd (Finset.mem_univ p) hp

/-- A fact that holds before a counted loop and passes from trip to trip holds after it. -/
theorem fold_holds {n : ℕ} {σ : Type} (g : Fin n → σ → σ) (init : σ) (P : ℕ → σ → Prop) (h0 : P 0 init)
    (h : ∀ (k : Fin n) acc, P k.val acc → P (k.val + 1) (g k acc)) : P n (Scf.fold g init) := by
  rw [Scf.fold_eq]
  have key : ∀ m, m ≤ n → P m (((List.finRange n).take m).foldl (fun acc k => g k acc) init) := by
    intro m
    induction m with
    | zero => intro _; simpa using h0
    | succ m ih =>
      intro hm
      have hl : m < (List.finRange n).length := by rw [List.length_finRange]; omega
      rw [List.take_succ_eq_append_getElem hl, List.foldl_append]
      have := h ⟨m, by omega⟩ _ (ih (by omega))
      simpa using this
  have := key n (le_refl n)
  rwa [List.take_of_length_le (by rw [List.length_finRange])] at this

end Cert.Value

end
-- ==== Proof.KernelRound.lean ====
/-
  One trip of the kernel's first loop and its fifty trips, as the plain functions of `Spec`.

  The kernel works on 5120 columns, of which the last 120 are padding whose score is −1: none of them is ever the first
  of the greatest, for no score goes below −1 and they come last.
-/
module

public import proofs.«01_k».proof.Proof.Folds
public import proofs.«01_k».proof.Proof.KernelIdealRun
public import Idealize.ShloMosaic.Lib.DynamicIndex
public import Idealize.ShloMosaic.Lib.WordCmp

@[expose] public section

set_option maxRecDepth 16384

noncomputable section

namespace Cert.Value

open Idealize.ShloMosaic
open Cert.KernelIdeal Cert.KernelIdeal.Gen Cert.KernelIdeal.Run

/-- A row of scores with its padding. -/
def padded (s : Fin 5000 → EReal) (n : Fin 5120) : EReal := if h : n.val < 5000 then s ⟨n.val, h⟩ else low

/-- A box's column. -/
def column (b : Fin 5000) : Fin 5120 := ⟨b.val, by omega⟩

theorem column_val (b : Fin 5000) : (column b).val = b.val := rfl

theorem column_eq_iff (b b' : Fin 5000) : column b = column b' ↔ b = b' := by
  constructor
  · intro h; exact Fin.ext (by rw [← column_val b, ← column_val b', h])
  · rintro rfl; rfl

theorem padded_column (s : Fin 5000 → EReal) (b : Fin 5000) : padded s (column b) = s b := by
  unfold padded column
  rw [dif_pos b.isLt]

/-- The greatest score of a padded row is the greatest score. -/
theorem padded_le (s : Fin 5000 → EReal) (hs : ∀ b, low ≤ s b) (n : Fin 5120) : padded s n ≤ padded s (column (first s)) := by
  rw [padded_column]
  unfold padded
  split
  · exact first_max s _
  · exact hs _

/-- The first column with the greatest score is that of the first box with it. -/
theorem first_le_padded (s : Fin 5000 → EReal) (n : Fin 5120) (h : padded s n = s (first s)) : (first s).val ≤ n.val := by
  by_cases hn : n.val < 5000
  · have e : padded s n = s ⟨n.val, hn⟩ := dif_pos hn
    exact first_le s ⟨n.val, hn⟩ (e.symm.trans h)
  · have := (first s).isLt
    omega

/-- What one trip is given: the corners in rows and in a table, the areas. -/
structure Given (K : Fin 5000 → Fin 4 → EReal) (ya xa yb xb ar : FVec Ideal S1x5120 .f32) (bx : FVec Ideal S5120x4 .f32) : Prop where
  ya_at : ∀ b, ya (ix2 0 (column b)) = K b 0
  xa_at : ∀ b, xa (ix2 0 (column b)) = K b 1
  yb_at : ∀ b, yb (ix2 0 (column b)) = K b 2
  xb_at : ∀ b, xb (ix2 0 (column b)) = K b 3
  ar_at : ∀ b, ar (ix2 0 (column b)) = (K b 2 - K b 0) * (K b 3 - K b 1)
  bx_at : ∀ b a, bx (ix2 (column b) a) = K b a

variable {K : Fin 5000 → Fin 4 → EReal} {ya xa yb xb ar : FVec Ideal S1x5120 .f32} {bx : FVec Ideal S5120x4 .f32}
variable {s : FVec Ideal S80x5120 .f32} {t : Fin 80 → Fin 5000 → EReal}

/-- The greatest score. -/
theorem pay16_at (hs : ∀ c n, s (ix2 c n) = padded (t c) n) (ht : ∀ c b, low ≤ t c b) (c : Fin 80) :
    k0_pay16 s (ix2 c 0) = t c (first (t c)) := by
  pointwise [k0_pay16]
  have h := fold_max_top (fun x : Fin 5120 => (s (ix2 c x) : EReal)) (column (first (t c)))
    (fun x => by simp only [hs]; exact padded_le (t c) (ht c) x)
  refine h.trans ?_
  show s (ix2 c (column (first (t c)))) = _
  rw [hs, padded_column]

/-- The column taken. -/
theorem pay17_at (hs : ∀ c n, s (ix2 c n) = padded (t c) n) (ht : ∀ c b, low ≤ t c b) (c : Fin 80) (n : Fin 5120) :
    k0_pay17 cols s (ix2 c n) = BitVec.ofBool (decide (n = column (first (t c)))) := by
  pointwise [k0_pay17, cols]
  rw [pay16_at hs ht]
  generalize hf : first (t c) = f
  have hb := f.isLt
  have hv := column_val f
  have hn := n.isLt
  have hp : s (ix2 c (column f)) = t c f := by rw [hs, padded_column]
  have hw : (BitVec.ofNat 32 (column f).val).toInt = f.val := by rw [hv]; exact toInt_ofNat_of_lt (by omega)
  have h := fold_min_least
    (fun x : Fin 5120 => if s (ix2 c x) = t c f then BitVec.ofNat 32 x.val else 5120#32) (column f)
    (fun x => by
      have hx := x.isLt
      rw [if_pos hp, hw]
      split
      · rename_i e
        have := first_le_padded (t c) x (by rw [hf]; exact (hs c x).symm.trans e)
        rw [hf] at this
        rw [toInt_ofNat_of_lt (by omega)]
        exact_mod_cast this
      · have e : (5120#32 : BitVec 32).toInt = 5120 := by decide
        rw [e]
        omega)
  rw [h, if_pos hp]
  exact cmpi_number n.val (column f).val (by omega) (by omega) _ (Fin.ext_iff).symm

/-- The corners of the box taken. -/
theorem pay18_at (hs : ∀ c n, s (ix2 c n) = padded (t c) n) (ht : ∀ c b, low ≤ t c b)
    (hg : Given K ya xa yb xb ar bx) (c : Fin 80) (a : Fin 4) :
    k0_pay18 bx cols s (ix2 c a) = K (first (t c)) a := by
  pointwise [k0_pay18, pay17_at hs ht]
  have h := sum_weight (fun x : Fin 5120 => BitVec.ofBool (decide (x = column (first (t c))))) (fun x => bx (ix2 x a))
    (column (first (t c))) (by simp) (fun x hx => by simp [hx])
  exact h.trans (hg.bx_at _ a)

/-- The boxes overlapped. -/
theorem pay23_at (hs : ∀ c n, s (ix2 c n) = padded (t c) n) (ht : ∀ c b, low ≤ t c b)
    (hg : Given K ya xa yb xb ar bx) (c : Fin 80) (b : Fin 5000) :
    k0_pay23 ya xa yb xb ar bx cols s (ix2 c (column b))
      = BitVec.ofBool (decide (Ideal.ofBits .f32 0x3EE66666#32 < over (K (first (t c))) (K b))) := by
  pointwise [k0_pay23, k0_pay19, k0_pay20, k0_pay21, k0_pay22, pay18_at hs ht hg]
  simp only [hg.ya_at, hg.xa_at, hg.yb_at, hg.xb_at, hg.ar_at]
  rfl

/-- Whether the score taken is above zero. -/
theorem pay24_at (hs : ∀ c n, s (ix2 c n) = padded (t c) n) (ht : ∀ c b, low ≤ t c b) (c : Fin 80) :
    k0_pay24 s (ix2 c 0) = BitVec.ofBool (decide (0 < t c (first (t c)))) := by
  pointwise [k0_pay24, pay16_at hs ht]

/-- A choice made on three facts, in the kernel's order. -/
theorem select_facts_or {α : Type} (p q r : Prop) [Decidable p] [Decidable q] [Decidable r] [Decidable (p ∨ (q ∧ r))] (x y : α) :
    Scalar.select (IntOp.ori (IntOp.andi (BitVec.ofBool (decide q)) (BitVec.ofBool (decide r))) (BitVec.ofBool (decide p))) x y
      = if p ∨ (q ∧ r) then x else y := by
  by_cases hp : p <;> by_cases hq : q <;> by_cases hr : r <;> simp [hp, hq, hr, Scalar.select, IntOp.andi, IntOp.ori]

theorem select_same {α : Type} (c : BitVec 1) (x : α) : Scalar.select c x x = x := by
  unfold Scalar.select
  split <;> rfl

/-- The scores left. -/
theorem pay50_at (hs : ∀ c n, s (ix2 c n) = padded (t c) n) (ht : ∀ c b, low ≤ t c b)
    (hg : Given K ya xa yb xb ar bx) (c : Fin 80) (n : Fin 5120) :
    k0_pay50 s (k0_pay17 cols s) (k0_pay23 ya xa yb xb ar bx cols s) (k0_pay24 s) (ix2 c n) = padded (struck K (t c)) n := by
  pointwise [k0_pay50, pay17_at hs ht, pay24_at hs ht]
  by_cases hn : n.val < 5000
  · obtain ⟨b, rfl⟩ : ∃ b : Fin 5000, n = column b := ⟨⟨n.val, hn⟩, rfl⟩
    rw [pay23_at hs ht hg, hs, padded_column, padded_column]
    simp only [column_eq_iff]
    exact select_facts_or _ _ _ _ _
  · have e : ∀ f : Fin 5000 → EReal, padded f n = low := fun f => dif_neg hn
    rw [hs, e, e]
    exact select_same _ _

/-- The loop's number. -/
theorem trip_word (k : ℕ) : Scf.iv 0#32 1#32 k = BitVec.ofNat 32 k := by
  unfold Scf.iv
  rw [BitVec.mul_one, BitVec.zero_add]

theorem trip_lt (k : Fin k0_t1_loop.trips) : k.val < 50 := k.isLt.trans_le (by decide)

/-- Choosing the column of the trip. -/
theorem select_trip {α : Type} (k : Fin k0_t1_loop.trips) (i : Fin 50) (x y : α) :
    Scalar.select (IntOp.cmpi .eq (BitVec.ofNat 32 i.val) (Scf.iv 0#32 1#32 k.val)) x y = if i.val = k.val then x else y := by
  have hk := trip_lt k
  have hi := i.isLt
  have e : IntOp.cmpi .eq (BitVec.ofNat 32 i.val) (Scf.iv 0#32 1#32 k.val) = BitVec.ofBool (decide (i.val = k.val)) := by
    show BitVec.ofBool _ = _
    congr 1
    rw [trip_word, Bool.eq_iff_iff, beq_iff_eq, WordCmp.ofNat_eq_ofNat_iff (by omega) (by omega), decide_eq_true_iff]
  rw [e]
  by_cases h : i.val = k.val <;> simp [h, Scalar.select]

theorem pay52_at (x : FVec Ideal S80x50 .f32) (k : Fin k0_t1_loop.trips) (v : FVec Ideal S80x1 .f32) (c : Fin 80) (i : Fin 50) :
    k0_pay52 x (Scf.iv 0#32 1#32 k) v (ix2 c i) = if i.val = k.val then v (ix2 c 0) else x (ix2 c i) := by
  pointwise [k0_pay52, k0_pay51]
  exact select_trip k i _ _

theorem pay53_at (x : FVec Ideal S80x50 .f32) (k : Fin k0_t1_loop.trips) (v : FVec Ideal S80x1 .f32) (c : Fin 80) (i : Fin 50) :
    k0_pay53 x (Scf.iv 0#32 1#32 k) v (ix2 c i) = if i.val = k.val then v (ix2 c 0) else x (ix2 c i) := pay52_at x k v c i

theorem pay54_at (x : FVec Ideal S80x50 .f32) (k : Fin k0_t1_loop.trips) (v : FVec Ideal S80x1 .f32) (c : Fin 80) (i : Fin 50) :
    k0_pay54 x (Scf.iv 0#32 1#32 k) v (ix2 c i) = if i.val = k.val then v (ix2 c 0) else x (ix2 c i) := pay52_at x k v c i

theorem pay55_at (x : FVec Ideal S80x50 .f32) (k : Fin k0_t1_loop.trips) (v : FVec Ideal S80x1 .f32) (c : Fin 80) (i : Fin 50) :
    k0_pay55 x (Scf.iv 0#32 1#32 k) v (ix2 c i) = if i.val = k.val then v (ix2 c 0) else x (ix2 c i) := pay52_at x k v c i

theorem pay56_at (x : FVec Ideal S80x50 .f32) (k : Fin k0_t1_loop.trips) (v : FVec Ideal S80x1 .f32) (c : Fin 80) (i : Fin 50) :
    k0_pay56 x (Scf.iv 0#32 1#32 k) v (ix2 c i) = if i.val = k.val then v (ix2 c 0) else x (ix2 c i) := pay52_at x k v c i

/-- What the loop carries before trip `k`. -/
structure Holds (K : Fin 5000 → Fin 4 → EReal) (S : Fin 80 → Fin 5000 → EReal) (k : ℕ) (p : Picks Ideal) : Prop where
  left : ∀ c n, p.1 (ix2 c n) = padded (after K (S c) k) n
  best : ∀ c (i : Fin 50), i.val < k → p.2.1 (ix2 c i) = takenScore K (S c) i.val
  ya : ∀ c (i : Fin 50), i.val < k → p.2.2.1 (ix2 c i) = K (taken K (S c) i.val) 0
  xa : ∀ c (i : Fin 50), i.val < k → p.2.2.2.1 (ix2 c i) = K (taken K (S c) i.val) 1
  yb : ∀ c (i : Fin 50), i.val < k → p.2.2.2.2.1 (ix2 c i) = K (taken K (S c) i.val) 2
  xb : ∀ c (i : Fin 50), i.val < k → p.2.2.2.2.2 (ix2 c i) = K (taken K (S c) i.val) 3

variable {S : Fin 80 → Fin 5000 → EReal}

/-- One trip. -/
theorem holds_next (hg : Given K ya xa yb xb ar bx) (hS : ∀ c b, low ≤ S c b) (k : Fin k0_t1_loop.trips) (p : Picks Ideal)
    (h : Holds K S k.val p) : Holds K S (k.val + 1) (pick ya xa yb xb ar bx cols k p) := by
  have ht : ∀ c b, low ≤ after K (S c) k.val b := fun c b => low_le_after K (S c) (hS c) k.val b
  constructor
  · intro c n
    exact pay50_at h.left ht hg c n
  · intro c i hi
    refine (pay52_at _ k _ c i).trans ?_
    by_cases e : i.val = k.val
    · rw [if_pos e, e]; exact pay16_at h.left ht c
    · rw [if_neg e]; exact h.best c i (by omega)
  · intro c i hi
    refine (pay53_at _ k _ c i).trans ?_
    by_cases e : i.val = k.val
    · rw [if_pos e, e]
      pointwise [k0_pay19, pay18_at h.left ht hg]
      rfl
    · rw [if_neg e]; exact h.ya c i (by omega)
  · intro c i hi
    refine (pay54_at _ k _ c i).trans ?_
    by_cases e : i.val = k.val
    · rw [if_pos e, e]
      pointwise [k0_pay20, pay18_at h.left ht hg]
      rfl
    · rw [if_neg e]; exact h.xa c i (by omega)
  · intro c i hi
    refine (pay55_at _ k _ c i).trans ?_
    by_cases e : i.val = k.val
    · rw [if_pos e, e]
      pointwise [k0_pay21, pay18_at h.left ht hg]
      rfl
    · rw [if_neg e]; exact h.yb c i (by omega)
  · intro c i hi
    refine (pay56_at _ k _ c i).trans ?_
    by_cases e : i.val = k.val
    · rw [if_pos e, e]
      pointwise [k0_pay22, pay18_at h.left ht hg]
      rfl
    · rw [if_neg e]; exact h.xb c i (by omega)

/-- The fifty trips. -/
theorem holds_fold (hg : Given K ya xa yb xb ar bx) (hS : ∀ c b, low ≤ S c b) (p : Picks Ideal)
    (h0 : ∀ c n, p.1 (ix2 c n) = padded (S c) n) :
    Holds K S 50 (Scf.fold (pick ya xa yb xb ar bx cols) p) :=
  fold_holds (pick ya xa yb xb ar bx cols) p (Holds K S)
    ⟨h0, fun _ _ h => absurd h (by omega), fun _ _ h => absurd h (by omega), fun _ _ h => absurd h (by omega),
      fun _ _ h => absurd h (by omega), fun _ _ h => absurd h (by omega)⟩
    (fun k p h => holds_next hg hS k p h)

end Cert.Value

end
-- ==== Proof.Arrays.lean ====
/-
  The arrays around the region: each window's block is its whole array, what the host line before the region puts in the
  three input arrays, and what the region leaves in the seven output arrays.
-/
module

public import proofs.«01_k».proof.Proof.KernelIdealRun
public import Idealize.ShloMosaic.Lib.Claim
public import Idealize.ShloMosaic.Lib.Pipeline.ValueKit

@[expose] public section

set_option maxRecDepth 16384

noncomputable section

namespace Cert.KernelIdeal.Run

open Idealize.ShloMosaic Idealize.ShloMosaic.TcCoe
open Idealize.SL Idealize.SL.Sem
open Cert.KernelIdeal.Gen

variable {F : FTy → Type} [FloatOps F]
variable (m : (ℓ : Loc nD τ sig) → Buf (Elt F) ℓ)

/-- An index of window 0's block is the same index of its array. -/
theorem emb0 (t : Fin cfg0.N) (j : S4x5120.Idx) : ((cfg0.win 0).blk t).view.emb j = j := by
  funext a; apply Fin.ext
  match a with
  | ⟨0, _⟩ => show 0 * 4 + 1 * (j 0).val = (j 0).val; omega
  | ⟨1, _⟩ => show 0 * 5120 + 1 * (j 1).val = (j 1).val; omega

/-- Input window 0's block is its array as the region finds it. -/
theorem iblk0_eq (c : Dev nD) (t : Fin cfg0.N) : iblk m c 0 t = V m c main_v2 := by
  funext j; show V m c main_v2 (((cfg0.win 0).blk t).view.emb j) = V m c main_v2 j; rw [emb0]

/-- An index of window 1's block is the same index of its array. -/
theorem emb1 (t : Fin cfg0.N) (j : S5120x4.Idx) : ((cfg0.win 1).blk t).view.emb j = j := by
  funext a; apply Fin.ext
  match a with
  | ⟨0, _⟩ => show 0 * 5120 + 1 * (j 0).val = (j 0).val; omega
  | ⟨1, _⟩ => show 0 * 4 + 1 * (j 1).val = (j 1).val; omega

/-- Input window 1's block is its array as the region finds it. -/
theorem iblk1_eq (c : Dev nD) (t : Fin cfg0.N) : iblk m c 1 t = V m c main_v1 := by
  funext j; show V m c main_v1 (((cfg0.win 1).blk t).view.emb j) = V m c main_v1 j; rw [emb1]

/-- An index of window 2's block is the same index of its array. -/
theorem emb2 (t : Fin cfg0.N) (j : S80x5120.Idx) : ((cfg0.win 2).blk t).view.emb j = j := by
  funext a; apply Fin.ext
  match a with
  | ⟨0, _⟩ => show 0 * 80 + 1 * (j 0).val = (j 0).val; omega
  | ⟨1, _⟩ => show 0 * 5120 + 1 * (j 1).val = (j 1).val; omega

/-- Input window 2's block is its array as the region finds it. -/
theorem iblk2_eq (c : Dev nD) (t : Fin cfg0.N) : iblk m c 2 t = V m c main_v5 := by
  funext j; show V m c main_v5 (((cfg0.win 2).blk t).view.emb j) = V m c main_v5 j; rw [emb2]

/-- An index of window 3's block is the same index of its array. -/
theorem emb3 (t : Fin cfg0.N) (j : S1x50.Idx) : ((cfg0.win 3).blk t).view.emb j = j := by
  funext a; apply Fin.ext
  match a with
  | ⟨0, _⟩ => show 0 * 1 + 1 * (j 0).val = (j 0).val; omega
  | ⟨1, _⟩ => show 0 * 50 + 1 * (j 1).val = (j 1).val; omega

/-- Output window 3's array after the run. -/
theorem final3 (c : Dev nD) : (dats m 0 c).arrAt 3 cfg0.N
    = left3 (V m c main_v2) (V m c main_v1) (V m c main_v5) :=
  (dats m 0 c).arrAt_eq_of_cover 3 (left3 (V m c main_v2) (V m c main_v1) (V m c main_v5))
    (fun t _ => by
      show (cfg0.win 3).cut (grid0.coords t) ((dats m 0 c).after 3 t) = _
      rw [after_3, iblk0_eq, iblk1_eq, iblk2_eq]
      funext j
      show left3 (V m c main_v2) (V m c main_v1) (V m c main_v5) j
        = left3 (V m c main_v2) (V m c main_v1) (V m c main_v5) (((cfg0.win 3).blk t).view.emb j)
      rw [emb3])
    (fun i => ⟨t0_0, flush0_3 _, by
      have h := ((cfg0.win 3).blk t0_0).view.emb_mem_set i
      rwa [emb3] at h⟩)

/-- An index of window 4's block is the same index of its array. -/
theorem emb4 (t : Fin cfg0.N) (j : S1x50.Idx) : ((cfg0.win 4).blk t).view.emb j = j := by
  funext a; apply Fin.ext
  match a with
  | ⟨0, _⟩ => show 0 * 1 + 1 * (j 0).val = (j 0).val; omega
  | ⟨1, _⟩ => show 0 * 50 + 1 * (j 1).val = (j 1).val; omega

/-- Output window 4's array after the run. -/
theorem final4 (c : Dev nD) : (dats m 0 c).arrAt 4 cfg0.N
    = left4 (V m c main_v2) (V m c main_v1) (V m c main_v5) :=
  (dats m 0 c).arrAt_eq_of_cover 4 (left4 (V m c main_v2) (V m c main_v1) (V m c main_v5))
    (fun t _ => by
      show (cfg0.win 4).cut (grid0.coords t) ((dats m 0 c).after 4 t) = _
      rw [after_4, iblk0_eq, iblk1_eq, iblk2_eq]
      funext j
      show left4 (V m c main_v2) (V m c main_v1) (V m c main_v5) j
        = left4 (V m c main_v2) (V m c main_v1) (V m c main_v5) (((cfg0.win 4).blk t).view.emb j)
      rw [emb4])
    (fun i => ⟨t0_0, flush0_4 _, by
      have h := ((cfg0.win 4).blk t0_0).view.emb_mem_set i
      rwa [emb4] at h⟩)

/-- An index of window 5's block is the same index of its array. -/
theorem emb5 (t : Fin cfg0.N) (j : S1x50.Idx) : ((cfg0.win 5).blk t).view.emb j = j := by
  funext a; apply Fin.ext
  match a with
  | ⟨0, _⟩ => show 0 * 1 + 1 * (j 0).val = (j 0).val; omega
  | ⟨1, _⟩ => show 0 * 50 + 1 * (j 1).val = (j 1).val; omega

/-- Output window 5's array after the run. -/
theorem final5 (c : Dev nD) : (dats m 0 c).arrAt 5 cfg0.N
    = left5 (V m c main_v2) (V m c main_v1) (V m c main_v5) :=
  (dats m 0 c).arrAt_eq_of_cover 5 (left5 (V m c main_v2) (V m c main_v1) (V m c main_v5))
    (fun t _ => by
      show (cfg0.win 5).cut (grid0.coords t) ((dats m 0 c).after 5 t) = _
      rw [after_5, iblk0_eq, iblk1_eq, iblk2_eq]
      funext j
      show left5 (V m c main_v2) (V m c main_v1) (V m c main_v5) j
        = left5 (V m c main_v2) (V m c main_v1) (V m c main_v5) (((cfg0.win 5).blk t).view.emb j)
      rw [emb5])
    (fun i => ⟨t0_0, flush0_5 _, by
      have h := ((cfg0.win 5).blk t0_0).view.emb_mem_set i
      rwa [emb5] at h⟩)

/-- An index of window 6's block is the same index of its array. -/
theorem emb6 (t : Fin cfg0.N) (j : S1x50.Idx) : ((cfg0.win 6).blk t).view.emb j = j := by
  funext a; apply Fin.ext
  match a with
  | ⟨0, _⟩ => show 0 * 1 + 1 * (j 0).val = (j 0).val; omega
  | ⟨1, _⟩ => show 0 * 50 + 1 * (j 1).val = (j 1).val; omega

/-- Output window 6's array after the run. -/
theorem final6 (c : Dev nD) : (dats m 0 c).arrAt 6 cfg0.N
    = left6 (V m c main_v2) (V m c main_v1) (V m c main_v5) :=
  (dats m 0 c).arrAt_eq_of_cover 6 (left6 (V m c main_v2) (V m c main_v1) (V m c main_v5))
    (fun t _ => by
      show (cfg0.win 6).cut (grid0.coords t) ((dats m 0 c).after 6 t) = _
      rw [after_6, iblk0_eq, iblk1_eq, iblk2_eq]
      funext j
      show left6 (V m c main_v2) (V m c main_v1) (V m c main_v5) j
        = left6 (V m c main_v2) (V m c main_v1) (V m c main_v5) (((cfg0.win 6).blk t).view.emb j)
      rw [emb6])
    (fun i => ⟨t0_0, flush0_6 _, by
      have h := ((cfg0.win 6).blk t0_0).view.emb_mem_set i
      rwa [emb6] at h⟩)

/-- An index of window 7's block is the same index of its array. -/
theorem emb7 (t : Fin cfg0.N) (j : S1x50.Idx) : ((cfg0.win 7).blk t).view.emb j = j := by
  funext a; apply Fin.ext
  match a with
  | ⟨0, _⟩ => show 0 * 1 + 1 * (j 0).val = (j 0).val; omega
  | ⟨1, _⟩ => show 0 * 50 + 1 * (j 1).val = (j 1).val; omega

/-- Output window 7's array after the run. -/
theorem final7 (c : Dev nD) : (dats m 0 c).arrAt 7 cfg0.N
    = left7 (V m c main_v2) (V m c main_v1) (V m c main_v5) :=
  (dats m 0 c).arrAt_eq_of_cover 7 (left7 (V m c main_v2) (V m c main_v1) (V m c main_v5))
    (fun t _ => by
      show (cfg0.win 7).cut (grid0.coords t) ((dats m 0 c).after 7 t) = _
      rw [after_7, iblk0_eq, iblk1_eq, iblk2_eq]
      funext j
      show left7 (V m c main_v2) (V m c main_v1) (V m c main_v5) j
        = left7 (V m c main_v2) (V m c main_v1) (V m c main_v5) (((cfg0.win 7).blk t).view.emb j)
      rw [emb7])
    (fun i => ⟨t0_0, flush0_7 _, by
      have h := ((cfg0.win 7).blk t0_0).view.emb_mem_set i
      rwa [emb7] at h⟩)

/-- An index of window 8's block is the same index of its array. -/
theorem emb8 (t : Fin cfg0.N) (j : S1x50.Idx) : ((cfg0.win 8).blk t).view.emb j = j := by
  funext a; apply Fin.ext
  match a with
  | ⟨0, _⟩ => show 0 * 1 + 1 * (j 0).val = (j 0).val; omega
  | ⟨1, _⟩ => show 0 * 50 + 1 * (j 1).val = (j 1).val; omega

/-- Output window 8's array after the run. -/
theorem final8 (c : Dev nD) : (dats m 0 c).arrAt 8 cfg0.N
    = left8 (V m c main_v2) (V m c main_v1) (V m c main_v5) :=
  (dats m 0 c).arrAt_eq_of_cover 8 (left8 (V m c main_v2) (V m c main_v1) (V m c main_v5))
    (fun t _ => by
      show (cfg0.win 8).cut (grid0.coords t) ((dats m 0 c).after 8 t) = _
      rw [after_8, iblk0_eq, iblk1_eq, iblk2_eq]
      funext j
      show left8 (V m c main_v2) (V m c main_v1) (V m c main_v5) j
        = left8 (V m c main_v2) (V m c main_v1) (V m c main_v5) (((cfg0.win 8).blk t).view.emb j)
      rw [emb8])
    (fun i => ⟨t0_0, flush0_8 _, by
      have h := ((cfg0.win 8).blk t0_0).view.emb_mem_set i
      rwa [emb8] at h⟩)

/-- An index of window 9's block is the same index of its array. -/
theorem emb9 (t : Fin cfg0.N) (j : S1x1.Idx) : ((cfg0.win 9).blk t).view.emb j = j := by
  funext a; apply Fin.ext
  match a with
  | ⟨0, _⟩ => show 0 * 1 + 1 * (j 0).val = (j 0).val; omega
  | ⟨1, _⟩ => show 0 * 1 + 1 * (j 1).val = (j 1).val; omega

/-- Output window 9's array after the run. -/
theorem final9 (c : Dev nD) : (dats m 0 c).arrAt 9 cfg0.N
    = left9 (V m c main_v2) (V m c main_v1) (V m c main_v5) :=
  (dats m 0 c).arrAt_eq_of_cover 9 (left9 (V m c main_v2) (V m c main_v1) (V m c main_v5))
    (fun t _ => by
      show (cfg0.win 9).cut (grid0.coords t) ((dats m 0 c).after 9 t) = _
      rw [after_9, iblk0_eq, iblk1_eq, iblk2_eq]
      funext j
      show left9 (V m c main_v2) (V m c main_v1) (V m c main_v5) j
        = left9 (V m c main_v2) (V m c main_v1) (V m c main_v5) (((cfg0.win 9).blk t).view.emb j)
      rw [emb9])
    (fun i => ⟨t0_0, flush0_9 _, by
      have h := ((cfg0.win 9).blk t0_0).view.emb_mem_set i
      rwa [emb9] at h⟩)

/-- The boxes, padded below with rows of zeros. -/
def boxes (A : Vec F S1x5000x4 .f32) : Vec F S5120x4 .f32 :=
  pad S5120x4 ![0, 0] ![120, 0] ![0, 0] (shapeCast S5000x4 A shapeCasts_S1x5000x4_S5000x4) (sitofp .f32 (constantI S_ 32 0#32))
    pads_S5000x4_S5120x4_01200_000 h_S_

/-- The boxes with the coordinates along the rows. -/
def sides (A : Vec F S1x5000x4 .f32) : Vec F S4x5120 .f32 :=
  transpose S4x5120 [1, 0] (boxes A) transposes_S5120x4_S4x5120_1_0

/-- The scores with the classes along the rows, padded to the right with −1. -/
def heights (B : Vec F S1x5000x80 .f32) : Vec F S80x5120 .f32 :=
  pad S80x5120 ![0, 0] ![0, 120] ![0, 0]
    (transpose S80x5000 [1, 0] (shapeCast S5000x80 B shapeCasts_S1x5000x80_S5000x80) transposes_S5000x80_S80x5000_1_0)
    (constant S_ .f32 0xBF800000#32) pads_S80x5000_S80x5120_000_01200 h_S_

theorem entry_v1 (c : Dev nD) : V m c main_v1 = boxes (m ((c : Thread nD τ).loc main_arg0)) := by
  entry_read
  rfl

theorem entry_v2 (c : Dev nD) : V m c main_v2 = sides (m ((c : Thread nD τ).loc main_arg0)) := by
  entry_read
  rfl

theorem entry_v5 (c : Dev nD) : V m c main_v5 = heights (m ((c : Thread nD τ).loc main_arg1)) := by
  entry_read
  rfl

end Cert.KernelIdeal.Run

end
-- ==== Proof.ReferenceRound.lean ====
/-
  One trip of the reference's loop and its fifty trips, as the plain functions of `Spec`.
-/
module

public import proofs.«01_k».proof.Proof.Spec
public import proofs.«01_k».proof.Proof.ReferenceSteps
public import Idealize.ShloMosaic.Lib.Routing.Ops
public import Idealize.ShloMosaic.Lib.DynamicIndex
public import Idealize.ShloMosaic.Lib.WordCmp

@[expose] public section

set_option maxRecDepth 16384

noncomputable section

namespace Cert.Value

open Idealize.ShloMosaic
open Cert.ReferenceIdeal Cert.ReferenceIdeal.Gen Cert.ReferenceIdeal.Step

/-- The corners a state holds. -/
def cornersOf (s : State Ideal) (n : Fin 5000) (a : Fin 4) : EReal := s.main_v23_0 (ix2 n a)

/-- The scores of class `c` a state holds. -/
def scoresOf (s : State Ideal) (c : Fin 80) (n : Fin 5000) : EReal := s.main_v23_3 (ix2 c n)

variable (j : ℕ) (s : State Ideal)

/-- The first place of the order is the greatest element's. -/
theorem sorted_top {n : ℕ} [NeZero n] (x : Fin n → Ideal .f32) (i : Fin n) (hi : i.val = 0) :
    sortedFrom (fun k k' => FloatOps.cmpfTotal .gt (x k) (x k') == 1#1) i = first (fun k => (x k : EReal)) := by
  have e : i = 0 := Fin.ext hi
  subst e
  exact sortedFrom_gt x 0

/-- A choice made on three facts. -/
theorem select_facts {α : Type} (p q r : Prop) [Decidable p] [Decidable q] [Decidable r] [Decidable (p ∨ (q ∧ r))] (x y : α) :
    Scalar.select (BitVec.ofBool (decide p)) x
      (Scalar.select (IntOp.andi (BitVec.ofBool (decide q)) (BitVec.ofBool (decide r))) x y)
      = if p ∨ (q ∧ r) then x else y := by
  by_cases hp : p <;> by_cases hq : q <;> by_cases hr : r <;> simp [hp, hq, hr, Scalar.select, IntOp.andi]

theorem along_row (c : Fin 80) (k : Fin 5000) : (ix2 c (0 : Fin 5000) : S80x5000.Idx).along 1 k = ix2 c k := by
  funext a; match a with | ⟨0, _⟩ => rfl | ⟨1, _⟩ => rfl

/-- The score of the box taken. -/
theorem b4_at (c : Fin 80) : b4 j s (ix1 c) = scoresOf s c (first (scoresOf s c)) := by
  pointwise [b4, b2, Host.topK, Host.sort2]
  simp only [along_row]
  exact congrArg (scoresOf s c) (sorted_top (fun k => s.main_v23_3 (ix2 c k)) _ rfl)

/-- The position of the box taken. -/
theorem b5_at (c : Fin 80) : b5 j s (ix1 c) = BitVec.ofNat 32 (first (scoresOf s c)).val := by
  pointwise [b5, b3, Host.topK, Host.sort2]
  simp only [along_row]
  exact congrArg (fun q : Fin 5000 => BitVec.ofNat 32 q.val) (sorted_top (fun k => s.main_v23_3 (ix2 c k)) _ rfl)

/-- The wrapped position is the position. -/
theorem b30_at (c : Fin 80) : b30 j s (ix1 c) = BitVec.ofNat 32 (first (scoresOf s c)).val := by
  refine (select_slt_zero_of_nonneg (b5 j s) (b29 j s) (b5 j s) (ix1 c) ?_).trans (b5_at j s c)
  rw [b5_at, toInt_ofNat_of_lt (by omega)]
  omega

/-- The corners of the box taken. -/
theorem b32_at (c : Fin 80) (a : Fin 4) : b32 j s (ix2 c a) = cornersOf s (first (scoresOf s c)) a := by
  unfold b32
  refine Routing.gather_row _ rfl rfl rfl rfl rfl _ _ c a (first (scoresOf s c)) ?_ (by norm_num)
  pointwise [b31, b30_at]

/-- The overlap with the box taken. -/
theorem b101_at (c : Fin 80) (n : Fin 5000) :
    b101 j s (ix2 c n) = over (cornersOf s (first (scoresOf s c))) (cornersOf s n) := by
  pointwise [b33,b34,b35,b36,b37,b38,b39,b40,b41,b42,b43,b44,b45,b46,b47,b48,b49,b50,b51,b52,b53,b54,b55,b56,b57,b58,b59,
    b60,b61,b62,b63,b64,b65,b66,b67,b68,b69,b70,b71,b72,b73,b74,b75,b76,b77,b78,b79,b80,b81,b82,b83,b84,b85,b86,b87,b88,
    b89,b90,b91,b92,b93,b94,b95,b96,b97,b98,b99,b100,b101,b32_at]
  rfl

/-- The scores after the trip. -/
theorem b124_at (c : Fin 80) (n : Fin 5000) : b124 j s (ix2 c n) = struck (cornersOf s) (scoresOf s c) n := by
  pointwise [b124,b123,b122,b121,b120,b119,b118,b117,b116,b115,b114,b113,b112,b111,b110,b109,b108,b107,b106,b105,b104,b103,
    b102,b101_at,b4_at,b5_at]
  unfold struck
  rw [show IntOp.cmpi .eq (BitVec.ofNat 32 n.val) (BitVec.ofNat 32 (first (scoresOf s c)).val)
      = BitVec.ofBool (decide (n = first (scoresOf s c))) from by
    show BitVec.ofBool _ = _
    congr 1
    rw [Bool.eq_iff_iff, beq_iff_eq, WordCmp.ofNat_eq_ofNat_iff (by omega) (by omega), decide_eq_true_iff, Fin.ext_iff]]
  exact select_facts _ _ _ _ _

theorem start_row (i : S_.Idx) : (b13 j s i).toInt = 0 := by
  have e : b13 j s i = 0#32 := rfl
  rw [e]; decide

theorem start_column (hj : j < 50) (i : S_.Idx) : (b12 j s i).toInt = j := toInt_wrap_ofNat j (by omega)

/-- The positions after the trip: column `j` is the position of the box taken. -/
theorem b14_at (c : Fin 80) (i : Fin 50) (hj : j < 50) :
    b14 j s (ix2 c i) = if i.val = j then BitVec.ofNat 32 (first (scoresOf s c)).val else s.main_v23_4 (ix2 c i) := by
  have h0 := Host.clampedStart_of_le (s := S80x50) (t := S80x1) rfl
    (fun k => BitVec.toInt (![b13 j s, b12 j s] k (Shape.Idx.first h_S_))) 0 0 (start_row j s (Shape.Idx.first h_S_)) (by decide)
  have h1 := Host.clampedStart_of_le (s := S80x50) (t := S80x1) rfl
    (fun k => BitVec.toInt (![b13 j s, b12 j s] k (Shape.Idx.first h_S_))) 1 j (start_column j s hj (Shape.Idx.first h_S_))
    (by show j + 1 ≤ 50; omega)
  pointwise [b14, b6, b5_at]
  simp only [h0, h1]
  by_cases hi : i.val = j
  · rw [dif_pos (by omega), if_pos hi]; rfl
  · rw [dif_neg (by omega), if_neg hi]

/-- The scores taken after the trip: column `j` is the score of the box taken. -/
theorem b23_at (c : Fin 80) (i : Fin 50) (hj : j < 50) :
    b23 j s (ix2 c i) = if i.val = j then scoresOf s c (first (scoresOf s c)) else s.main_v23_5 (ix2 c i) := by
  have h0 := Host.clampedStart_of_le (s := S80x50) (t := S80x1) rfl
    (fun k => BitVec.toInt (![b22 j s, b21 j s] k (Shape.Idx.first h_S_))) 0 0 (start_row j s (Shape.Idx.first h_S_)) (by decide)
  have h1 := Host.clampedStart_of_le (s := S80x50) (t := S80x1) rfl
    (fun k => BitVec.toInt (![b22 j s, b21 j s] k (Shape.Idx.first h_S_))) 1 j (start_column j s hj (Shape.Idx.first h_S_))
    (by show j + 1 ≤ 50; omega)
  pointwise [b23, b15, b4_at]
  simp only [h0, h1]
  by_cases hi : i.val = j
  · rw [dif_pos (by omega), if_pos hi]; rfl
  · rw [dif_neg (by omega), if_neg hi]

/-- The corners and the scores the loop starts from. -/
def corners (a : (⟨S1x5000x4, .f32⟩ : BufTy).Contents (Elt Ideal)) (b : (⟨S1x5000x80, .f32⟩ : BufTy).Contents (Elt Ideal)) :
    Fin 5000 → Fin 4 → EReal := cornersOf (init a b)

/-- The scores the loop starts from. -/
def scores (a : (⟨S1x5000x4, .f32⟩ : BufTy).Contents (Elt Ideal)) (b : (⟨S1x5000x80, .f32⟩ : BufTy).Contents (Elt Ideal)) :
    Fin 80 → Fin 5000 → EReal := scoresOf (init a b)

variable (a : (⟨S1x5000x4, .f32⟩ : BufTy).Contents (Elt Ideal)) (b : (⟨S1x5000x80, .f32⟩ : BufTy).Contents (Elt Ideal))

/-- What the state after `k` trips holds. -/
theorem states_at (k : ℕ) (hk : k ≤ 50) :
    cornersOf (Steps.states a b k) = corners a b
    ∧ (∀ c, scoresOf (Steps.states a b k) c = after (corners a b) (scores a b c) k)
    ∧ (∀ c (i : Fin 50), i.val < k → (Steps.states a b k).main_v23_4 (ix2 c i)
        = BitVec.ofNat 32 (taken (corners a b) (scores a b c) i.val).val)
    ∧ (∀ c (i : Fin 50), i.val < k → (Steps.states a b k).main_v23_5 (ix2 c i)
        = takenScore (corners a b) (scores a b c) i.val) := by
  induction k with
  | zero => exact ⟨rfl, fun _ => rfl, fun _ _ h => absurd h (by omega), fun _ _ h => absurd h (by omega)⟩
  | succ k ih =>
    obtain ⟨h0, h3, h4, h5⟩ := ih (by omega)
    refine ⟨h0, fun c => ?_, fun c i hi => ?_, fun c i hi => ?_⟩
    · funext n
      refine (b124_at k (Steps.states a b k) c n).trans ?_
      rw [h0, h3]; rfl
    · refine (b14_at k (Steps.states a b k) c i (by omega)).trans ?_
      rw [h3]
      by_cases e : i.val = k
      · rw [if_pos e, e]; rfl
      · rw [if_neg e]; exact h4 c i (by omega)
    · refine (b23_at k (Steps.states a b k) c i (by omega)).trans ?_
      rw [h3]
      by_cases e : i.val = k
      · rw [if_pos e, e]; rfl
      · rw [if_neg e]; exact h5 c i (by omega)

end Cert.Value

end
-- ==== Proof.KernelInput.lean ====
/-
  What the kernel computes before its loops, at an index: the corners, areas and scores of the boxes.
-/
module

public import proofs.«01_k».proof.Proof.KernelRound
public import proofs.«01_k».proof.Proof.Arrays
public import proofs.«01_k».proof.Proof.ReferenceRound

@[expose] public section

set_option maxRecDepth 16384

noncomputable section

namespace Cert.Value

open Idealize.ShloMosaic
open Cert.KernelIdeal Cert.KernelIdeal.Gen Cert.KernelIdeal.Run

theorem boxes_at (A : Vec Ideal S1x5000x4 .f32) (b : Fin 5000) (e : Fin 4) : boxes A (ix2 (column b) e) = A (ix3 0 b e) := by
  pointwise [boxes]
  exact dif_pos b.isLt

theorem sides_at (A : Vec Ideal S1x5000x4 .f32) (b : Fin 5000) (e : Fin 4) : sides A (ix2 e (column b)) = A (ix3 0 b e) := by
  pointwise [sides]
  exact boxes_at A b e

theorem heights_at (B : Vec Ideal S1x5000x80 .f32) (c : Fin 80) (n : Fin 5120) :
    heights B (ix2 c n) = padded (fun b : Fin 5000 => B (ix3 0 b c)) n := by
  pointwise [heights]
  rfl

/-! ## The reference's corners and scores -/

/-- A box's corners, lower y first, of its centre and size: everything over 256. -/
def corner (A : Vec Ideal S1x5000x4 .f32) (b : Fin 5000) : Fin 4 → EReal := fun e => match e with
  | 0 => Ideal.div (A (ix3 0 b 1) - Ideal.div (A (ix3 0 b 3)) (Ideal.ofBits .f32 0x40000000#32)) (Ideal.ofBits .f32 0x43800000#32)
  | 1 => Ideal.div (A (ix3 0 b 0) - Ideal.div (A (ix3 0 b 2)) (Ideal.ofBits .f32 0x40000000#32)) (Ideal.ofBits .f32 0x43800000#32)
  | 2 => Ideal.div (A (ix3 0 b 1) + Ideal.div (A (ix3 0 b 3)) (Ideal.ofBits .f32 0x40000000#32)) (Ideal.ofBits .f32 0x43800000#32)
  | 3 => Ideal.div (A (ix3 0 b 0) + Ideal.div (A (ix3 0 b 2)) (Ideal.ofBits .f32 0x40000000#32)) (Ideal.ofBits .f32 0x43800000#32)

section Reference
open Cert.ReferenceIdeal.Step
variable (A : Vec Ideal S1x5000x4 .f32) (B : Vec Ideal S1x5000x80 .f32)

theorem corners_0 (b : Fin 5000) : corners A B b 0 = corner A b 0 := by
  show A_main_v16 A B (ix2 b 0) = _
  pointwise [A_main_v0, A_main_v1, A_main_v2, A_main_v3, A_main_v4, A_main_v5, A_main_v7, A_main_v8, A_main_v10, A_main_v12,
    A_main_v13, A_main_v15, A_main_v16, K_main_v6, K_main_v9, K_main_v11, K_main_v14, K_main_cst, K_main_cst_0, K_main_cst_1,
    K_main_cst_2, corner]
  rfl

theorem corners_1 (b : Fin 5000) : corners A B b 1 = corner A b 1 := by
  show A_main_v16 A B (ix2 b 1) = _
  pointwise [A_main_v0, A_main_v1, A_main_v2, A_main_v3, A_main_v4, A_main_v5, A_main_v7, A_main_v8, A_main_v10, A_main_v12,
    A_main_v13, A_main_v15, A_main_v16, K_main_v6, K_main_v9, K_main_v11, K_main_v14, K_main_cst, K_main_cst_0, K_main_cst_1,
    K_main_cst_2, corner]
  rfl

theorem corners_2 (b : Fin 5000) : corners A B b 2 = corner A b 2 := by
  show A_main_v16 A B (ix2 b 2) = _
  pointwise [A_main_v0, A_main_v1, A_main_v2, A_main_v3, A_main_v4, A_main_v5, A_main_v7, A_main_v8, A_main_v10, A_main_v12,
    A_main_v13, A_main_v15, A_main_v16, K_main_v6, K_main_v9, K_main_v11, K_main_v14, K_main_cst, K_main_cst_0, K_main_cst_1,
    K_main_cst_2, corner]
  rfl

theorem corners_3 (b : Fin 5000) : corners A B b 3 = corner A b 3 := by
  show A_main_v16 A B (ix2 b 3) = _
  pointwise [A_main_v0, A_main_v1, A_main_v2, A_main_v3, A_main_v4, A_main_v5, A_main_v7, A_main_v8, A_main_v10, A_main_v12,
    A_main_v13, A_main_v15, A_main_v16, K_main_v6, K_main_v9, K_main_v11, K_main_v14, K_main_cst, K_main_cst_0, K_main_cst_1,
    K_main_cst_2, corner]
  rfl

/-- The reference's corners are the corners. -/
theorem corners_eq : corners A B = corner A := by
  funext b e
  match e with
  | 0 => exact corners_0 A B b
  | 1 => exact corners_1 A B b
  | 2 => exact corners_2 A B b
  | 3 => exact corners_3 A B b

/-- The reference's scores: what stays below the threshold is −1. -/
theorem scores_at (c : Fin 80) (b : Fin 5000) :
    scores A B c b = if Ideal.ofBits .f32 0x3ECCCCCD#32 ≤ B (ix3 0 b c) then B (ix3 0 b c) else low := by
  show A_main_v20 A B (ix2 c b) = _
  pointwise [A_main_v0, A_main_v17, A_main_v19, A_main_v20, K_main_v18, K_main_call0_v1, K_main_cst_3, K_main_cst_4, K_main_call0_v0, id]

end Reference

theorem low_eq : low = ((-1 : ℝ) : EReal) := by
  simp [low, Ideal.ofBits, Ideal.ieee, -EReal.coe_mul, -EReal.coe_neg]; norm_num

theorem threshold_eq : Ideal.ofBits .f32 0x3ECCCCCD#32 = ((13421773 / 2 ^ 25 : ℝ) : EReal) := by
  simp [Ideal.ofBits, Ideal.ieee, -EReal.coe_mul]; norm_num

theorem threshold_pos : (0 : EReal) < Ideal.ofBits .f32 0x3ECCCCCD#32 := by
  rw [threshold_eq]
  exact_mod_cast (by norm_num : (0 : ℝ) < 13421773 / 2 ^ 25)

theorem low_lt_threshold : low < Ideal.ofBits .f32 0x3ECCCCCD#32 := by
  refine lt_trans ?_ threshold_pos
  rw [low_eq]
  exact_mod_cast (by norm_num : (-1 : ℝ) < 0)

/-- No score goes below −1. -/
theorem low_le_scores (A : Vec Ideal S1x5000x4 .f32) (B : Vec Ideal S1x5000x80 .f32) (c : Fin 80) (b : Fin 5000) : low ≤ scores A B c b := by
  rw [scores_at]
  split
  · exact low_lt_threshold.le.trans ‹_›
  · exact le_rfl

/-! ## The kernel's -/

section Kernel
variable (A : Vec Ideal S1x5000x4 .f32) (B : Vec Ideal S1x5000x80 .f32)

theorem row0_at (x : Vec Ideal S4x5120 .f32) (n : Fin 5120) : View.ld x rRow0 (ix2 0 n) = x (ix2 0 n) := by
  pointwise [View.ld]

theorem col0_at (x : Vec Ideal S5120x4 .f32) (n : Fin 5120) : View.ld x rCol0 (ix2 n 0) = x (ix2 n 0) := by
  pointwise [View.ld]

theorem row1_at (x : Vec Ideal S4x5120 .f32) (n : Fin 5120) : View.ld x rRow1 (ix2 0 n) = x (ix2 1 n) := by
  pointwise [View.ld]

theorem col1_at (x : Vec Ideal S5120x4 .f32) (n : Fin 5120) : View.ld x rCol1 (ix2 n 0) = x (ix2 n 1) := by
  pointwise [View.ld]

theorem row2_at (x : Vec Ideal S4x5120 .f32) (n : Fin 5120) : View.ld x rRow2 (ix2 0 n) = x (ix2 2 n) := by
  pointwise [View.ld]

theorem col2_at (x : Vec Ideal S5120x4 .f32) (n : Fin 5120) : View.ld x rCol2 (ix2 n 0) = x (ix2 n 2) := by
  pointwise [View.ld]

theorem row3_at (x : Vec Ideal S4x5120 .f32) (n : Fin 5120) : View.ld x rRow3 (ix2 0 n) = x (ix2 3 n) := by
  pointwise [View.ld]

theorem col3_at (x : Vec Ideal S5120x4 .f32) (n : Fin 5120) : View.ld x rCol3 (ix2 n 0) = x (ix2 n 3) := by
  pointwise [View.ld]

/-- What the first loop is given: the corners, twice, and the areas. -/
theorem given : Given (corners A B)
    (k0_pay37 (View.ld (sides A) rRow1) (View.ld (sides A) rRow3)) (k0_pay38 (View.ld (sides A) rRow0) (View.ld (sides A) rRow2))
    (k0_pay39 (View.ld (sides A) rRow1) (View.ld (sides A) rRow3)) (k0_pay40 (View.ld (sides A) rRow0) (View.ld (sides A) rRow2))
    (k0_pay41 (View.ld (sides A) rRow0) (View.ld (sides A) rRow1) (View.ld (sides A) rRow2) (View.ld (sides A) rRow3))
    (k0_pay46 (k0_pay42 (View.ld (boxes A) rCol0)) (k0_pay43 (View.ld (boxes A) rCol1)) (k0_pay44 (View.ld (boxes A) rCol2))
      (k0_pay45 (View.ld (boxes A) rCol3))) := by
  rw [corners_eq]
  constructor
  · intro b; pointwise [k0_pay37, k0_pay34, k0_pay35, row1_at, row3_at, sides_at, corner]
  · intro b; pointwise [k0_pay38, k0_pay33, k0_pay36, row0_at, row2_at, sides_at, corner]
  · intro b; pointwise [k0_pay39, k0_pay34, k0_pay35, row1_at, row3_at, sides_at, corner]
  · intro b; pointwise [k0_pay40, k0_pay33, k0_pay36, row0_at, row2_at, sides_at, corner]
  · intro b
    pointwise [k0_pay41, k0_pay40, k0_pay39, k0_pay38, k0_pay37, k0_pay33, k0_pay34, k0_pay35, k0_pay36, row0_at, row1_at,
      row2_at, row3_at, sides_at, corner]
  · intro b a
    match a with
    | 0 => pointwise [k0_pay46, k0_pay42, k0_pay43, k0_pay44, k0_pay45, col1_at, col3_at, boxes_at, corner]
    | 1 => pointwise [k0_pay46, k0_pay42, k0_pay43, k0_pay44, k0_pay45, col0_at, col2_at, boxes_at, corner]
    | 2 => pointwise [k0_pay46, k0_pay42, k0_pay43, k0_pay44, k0_pay45, col1_at, col3_at, boxes_at, corner]
    | 3 => pointwise [k0_pay46, k0_pay42, k0_pay43, k0_pay44, k0_pay45, col0_at, col2_at, boxes_at, corner]

theorem pay47_at (v : Vec Ideal S80x5120 .f32) (c : Fin 80) (n : Fin 5120) :
    k0_pay47 v v (ix2 c n) = if Ideal.ofBits .f32 0x3ECCCCCD#32 ≤ v (ix2 c n) then v (ix2 c n) else low := by
  pointwise [k0_pay47]

/-- The scores the first loop starts from: the reference's, padded. -/
theorem start_at (c : Fin 80) (n : Fin 5120) :
    k0_pay47 (View.ld (heights B) rScore) (View.ld (heights B) rScore) (ix2 c n) = padded (scores A B c) n := by
  have e : View.ld (heights B) rScore = heights B :=
    View.ld_unit_zero (S := S80x5120) (funext fun a => by match a with | ⟨0, _⟩ => rfl | ⟨1, _⟩ => rfl) _ _
  rw [e, pay47_at, heights_at]
  unfold padded
  split
  · rw [scores_at]
  · rw [if_neg (not_le.mpr low_lt_threshold)]

end Kernel

end Cert.Value

end
-- ==== Proof.Merge.lean ====
/-
  One trip of the kernel's second loop and its fifty trips.

  The table of 80 × 50 scores is read as one row of 4000 entries.  Trip `o` takes the entry that stands `o`-th when the
  entries are ordered by score, greatest first, the earlier of two equal ones first; entries already taken are marked
  with −2, below every score.
-/
module

public import proofs.«01_k».proof.Proof.KernelRound

@[expose] public section

set_option maxRecDepth 16384

noncomputable section

namespace Cert.Value

open Idealize.ShloMosaic
open Cert.KernelIdeal Cert.KernelIdeal.Gen Cert.KernelIdeal.Run

/-- The class of an entry. -/
def classOf (x : Fin 4000) : Fin 80 := ⟨x.val / 50, by omega⟩

/-- The round of an entry. -/
def slotOf (x : Fin 4000) : Fin 50 := ⟨x.val % 50, by omega⟩

/-- The entry of a class and a round. -/
def flat (c : Fin 80) (i : Fin 50) : Fin 4000 := ⟨c.val * 50 + i.val, by omega⟩

theorem flat_val (c : Fin 80) (i : Fin 50) : (flat c i).val = c.val * 50 + i.val := rfl

theorem classOf_flat (c : Fin 80) (i : Fin 50) : classOf (flat c i) = c := by
  apply Fin.ext; show (c.val * 50 + i.val) / 50 = c.val; omega

theorem slotOf_flat (c : Fin 80) (i : Fin 50) : slotOf (flat c i) = i := by
  apply Fin.ext; show (c.val * 50 + i.val) % 50 = i.val; omega

theorem flat_of (x : Fin 4000) : flat (classOf x) (slotOf x) = x := by
  apply Fin.ext; show x.val / 50 * 50 + x.val % 50 = x.val; omega

theorem flat_eq_iff (c : Fin 80) (i : Fin 50) (x : Fin 4000) : flat c i = x ↔ c = classOf x ∧ i = slotOf x := by
  constructor
  · rintro rfl; exact ⟨(classOf_flat c i).symm, (slotOf_flat c i).symm⟩
  · rintro ⟨rfl, rfl⟩; exact flat_of x

/-- The scores as one row. -/
def entry (T : Fin 80 → Fin 50 → EReal) (x : Fin 4000) : EReal := T (classOf x) (slotOf x)

theorem entry_flat (T : Fin 80 → Fin 50 → EReal) (c : Fin 80) (i : Fin 50) : entry T (flat c i) = T c i := by
  unfold entry; rw [classOf_flat, slotOf_flat]

/-- The entry that stands `o`-th. -/
def lead (T : Fin 80 → Fin 50 → EReal) (o : Fin 50) : Fin 4000 := rank (entry T) ⟨o.val, by omega⟩

theorem lead_inj (T : Fin 80 → Fin 50 → EReal) (o o' : Fin 50) (h : lead T o = lead T o') : o = o' := by
  have := rank_inj (entry T) h
  exact Fin.ext (by simpa using congrArg Fin.val this)

/-- The mark, −2. -/
abbrev mark : EReal := Ideal.ofBits .f32 0xC0000000#32

theorem mark_lt_low : mark < low := by
  unfold mark low
  simp [Ideal.ofBits, Ideal.ieee, -EReal.coe_mul, -EReal.coe_neg]
  norm_num

open Classical in
/-- The table once the first `r` entries are marked. -/
def marked (T : Fin 80 → Fin 50 → EReal) (r : ℕ) (c : Fin 80) (i : Fin 50) : EReal :=
  if ∃ o : Fin 50, o.val < r ∧ lead T o = flat c i then mark else T c i

section
variable (T : Fin 80 → Fin 50 → EReal) (hT : ∀ c i, low ≤ T c i) (o : Fin 50)

theorem marked_of_not {r : ℕ} {c : Fin 80} {i : Fin 50} (h : ¬ ∃ o : Fin 50, o.val < r ∧ lead T o = flat c i) :
    marked T r c i = T c i := by unfold marked; exact if_neg h

theorem marked_of {r : ℕ} {c : Fin 80} {i : Fin 50} (h : ∃ o : Fin 50, o.val < r ∧ lead T o = flat c i) :
    marked T r c i = mark := by unfold marked; exact if_pos h

/-- The entry to be taken next is not marked. -/
theorem marked_lead : marked T o.val (classOf (lead T o)) (slotOf (lead T o)) = entry T (lead T o) := by
  rw [marked_of_not]
  · rfl
  · rintro ⟨o', h, e⟩
    rw [flat_of] at e
    have := lead_inj T o' o e
    subst this
    exact lt_irrefl _ h

theorem not_before {c : Fin 80} {i : Fin 50} (h : ¬ ∃ o' : Fin 50, o'.val < o.val ∧ lead T o' = flat c i)
    (x : Fin 4000) (hx : x < ⟨o.val, by omega⟩) : rank (entry T) x ≠ flat c i := by
  intro e
  have hx' : x.val < o.val := hx
  exact h ⟨⟨x.val, by omega⟩, hx', e⟩

include hT

/-- It is the greatest. -/
theorem marked_le (c : Fin 80) (i : Fin 50) : marked T o.val c i ≤ entry T (lead T o) := by
  by_cases h : ∃ o' : Fin 50, o'.val < o.val ∧ lead T o' = flat c i
  · rw [marked_of T h]
    exact mark_lt_low.le.trans (hT _ _)
  · rw [marked_of_not T h, ← entry_flat T c i]
    exact rank_max (entry T) _ _ (not_before T o h)

/-- And the first of the greatest. -/
theorem lead_le (c : Fin 80) (i : Fin 50) (e : marked T o.val c i = entry T (lead T o)) : (lead T o).val ≤ (flat c i).val := by
  by_cases h : ∃ o' : Fin 50, o'.val < o.val ∧ lead T o' = flat c i
  · rw [marked_of T h] at e
    exact absurd (hT (classOf (lead T o)) (slotOf (lead T o))) (not_le.mpr (lt_of_eq_of_lt e.symm mark_lt_low))
  · rw [marked_of_not T h, ← entry_flat T c i] at e
    have h2 : rank (entry T) ⟨o.val, by omega⟩ ≤ flat c i :=
      rank_first (entry T) ⟨o.val, by omega⟩ (flat c i) (not_before T o h) e
    exact Fin.le_def.mp h2

end

variable {T : Fin 80 → Fin 50 → EReal} {t : FVec Ideal S80x50 .f32}

/-- The greatest entry. -/
theorem pay25_at (hT : ∀ c i, low ≤ T c i) (o : Fin 50) (ht : ∀ c i, t (ix2 c i) = marked T o.val c i) :
    k0_pay25 t = entry T (lead T o) := by
  pointwise [k0_pay25]
  have hl : t (ix2 (classOf (lead T o)) (slotOf (lead T o))) = entry T (lead T o) := (ht _ _).trans (marked_lead T o)
  have h := fold_max_top (fun x : Fin 80 × Fin 50 => (t (ix2 x.1 x.2) : EReal)) (classOf (lead T o), slotOf (lead T o))
    (fun x => by
      show (t (ix2 x.1 x.2) : EReal) ≤ t (ix2 (classOf (lead T o)) (slotOf (lead T o)))
      rw [hl, ht]; exact marked_le T hT o x.1 x.2)
  exact h.trans hl

/-- An entry's position as a word. -/
theorem flat_word (c : Fin 80) (i : Fin 50) :
    IntOp.addi (IntOp.muli (BitVec.ofNat 32 c.val) 50#32) (BitVec.ofNat 32 i.val) = BitVec.ofNat 32 (flat c i).val := by
  rw [flat_val, BitVec.ofNat_add, BitVec.ofNat_mul]
  rfl

/-- The entry taken. -/
theorem pay26_at (hT : ∀ c i, low ≤ T c i) (o : Fin 50) (ht : ∀ c i, t (ix2 c i) = marked T o.val c i) (c : Fin 80) (i : Fin 50) :
    k0_pay26 k0_pay57 t (ix2 c i) = BitVec.ofBool (decide (flat c i = lead T o)) := by
  pointwise [k0_pay26, k0_pay57]
  simp only [flat_word]
  rw [pay25_at hT o ht]
  have hl : t (ix2 (classOf (lead T o)) (slotOf (lead T o))) = entry T (lead T o) := (ht _ _).trans (marked_lead T o)
  have hw : (BitVec.ofNat 32 (lead T o).val).toInt = (lead T o).val := toInt_ofNat_of_lt (by have := (lead T o).isLt; omega)
  have h := fold_min_least
    (fun x : Fin 80 × Fin 50 => if t (ix2 x.1 x.2) = entry T (lead T o) then BitVec.ofNat 32 (flat x.1 x.2).val else 4000#32)
    (classOf (lead T o), slotOf (lead T o))
    (fun x => by
      have hx := (flat x.1 x.2).isLt
      have hb := (lead T o).isLt
      rw [if_pos hl, flat_of, hw]
      split
      · rename_i e
        have := lead_le T hT o x.1 x.2 ((ht _ _).symm.trans e)
        rw [toInt_ofNat_of_lt (by omega)]
        exact_mod_cast this
      · have e : (4000#32 : BitVec 32).toInt = 4000 := by decide
        rw [e]
        omega)
  rw [h, if_pos hl, flat_of]
  have hx := (flat c i).isLt
  have hb := (lead T o).isLt
  exact cmpi_number _ _ (by omega) (by omega) _ (Fin.ext_iff).symm

/-- The sum over the table of what stands at the entry taken is what stands there. -/
theorem sum_taken (w : IVec S80x50 1) (x : Fin 4000) (hw : ∀ c i, w (ix2 c i) = BitVec.ofBool (decide (flat c i = x)))
    (u : Fin 80 → Fin 50 → EReal) :
    (∑ c : Fin 80, ∑ i : Fin 50, (Scalar.select (w (ix2 c i)) (u c i) 0 : EReal)) = u (classOf x) (slotOf x) := by
  have e : ∀ c i, (Scalar.select (w (ix2 c i)) (u c i) 0 : EReal) = if c = classOf x ∧ i = slotOf x then u c i else 0 := by
    intro c i
    rw [hw]
    by_cases h : flat c i = x
    · rw [if_pos ((flat_eq_iff c i x).mp h)]; simp [h, Scalar.select]
    · rw [if_neg (fun h' => h ((flat_eq_iff c i x).mpr h'))]; simp [h, Scalar.select]
  refine (Finset.sum_congr rfl fun c _ => Finset.sum_congr rfl fun i _ => e c i).trans ?_
  rw [Finset.sum_eq_single (classOf x), Finset.sum_eq_single (slotOf x)]
  · rw [if_pos ⟨rfl, rfl⟩]
  · intro i _ hi; exact if_neg (fun h => hi h.2)
  · intro h; exact absurd (Finset.mem_univ _) h
  · intro c _ hc; exact Finset.sum_eq_zero fun i _ => if_neg (fun h => hc h.1)
  · intro h; exact absurd (Finset.mem_univ _) h

theorem pay27_at (hT : ∀ c i, low ≤ T c i) (o : Fin 50) (ht : ∀ c i, t (ix2 c i) = marked T o.val c i) :
    k0_pay27 k0_pay57 k0_pay58 t = FloatOps.sitofp (F := Ideal) .f32 (BitVec.ofNat 32 (classOf (lead T o)).val) := by
  pointwise [k0_pay27, k0_pay58]
  exact sum_taken _ (lead T o) (pay26_at hT o ht) (fun c _ => FloatOps.sitofp (F := Ideal) .f32 (BitVec.ofNat 32 c.val))

theorem pay28_sum (u t : FVec Ideal S80x50 .f32) (w : IVec S80x50 32) :
    k0_pay28 u w t = ∑ c : Fin 80, ∑ i : Fin 50, (Scalar.select (k0_pay26 w t (ix2 c i)) (u (ix2 c i)) 0 : EReal) := by
  pointwise [k0_pay28]

theorem pay28_at (hT : ∀ c i, low ≤ T c i) (o : Fin 50) (ht : ∀ c i, t (ix2 c i) = marked T o.val c i) (u : FVec Ideal S80x50 .f32) :
    k0_pay28 u k0_pay57 t = u (ix2 (classOf (lead T o)) (slotOf (lead T o))) := by
  refine (pay28_sum u t k0_pay57).trans ?_
  exact sum_taken _ (lead T o) (pay26_at hT o ht) (fun c i => u (ix2 c i))

theorem pay29_at (hT : ∀ c i, low ≤ T c i) (o : Fin 50) (ht : ∀ c i, t (ix2 c i) = marked T o.val c i) (u : FVec Ideal S80x50 .f32) :
    k0_pay29 u k0_pay57 t = u (ix2 (classOf (lead T o)) (slotOf (lead T o))) := pay28_at hT o ht u

theorem pay30_at (hT : ∀ c i, low ≤ T c i) (o : Fin 50) (ht : ∀ c i, t (ix2 c i) = marked T o.val c i) (u : FVec Ideal S80x50 .f32) :
    k0_pay30 u k0_pay57 t = u (ix2 (classOf (lead T o)) (slotOf (lead T o))) := pay28_at hT o ht u

theorem pay31_at (hT : ∀ c i, low ≤ T c i) (o : Fin 50) (ht : ∀ c i, t (ix2 c i) = marked T o.val c i) (u : FVec Ideal S80x50 .f32) :
    k0_pay31 u k0_pay57 t = u (ix2 (classOf (lead T o)) (slotOf (lead T o))) := pay28_at hT o ht u

/-- The table left. -/
theorem pay7_at (hT : ∀ c i, low ≤ T c i) (o : Fin 50) (ht : ∀ c i, t (ix2 c i) = marked T o.val c i) (c : Fin 80) (i : Fin 50) :
    k0_pay7 t (k0_pay26 k0_pay57 t) (ix2 c i) = marked T (o.val + 1) c i := by
  pointwise [k0_pay7, pay26_at hT o ht]
  by_cases h : flat c i = lead T o
  · rw [marked_of T ⟨o, Nat.lt_succ_self _, h.symm⟩]
    simp only [h, decide_true]
    rfl
  · have e : marked T (o.val + 1) c i = marked T o.val c i := by
      by_cases h' : ∃ o' : Fin 50, o'.val < o.val ∧ lead T o' = flat c i
      · obtain ⟨o', hlt, he⟩ := h'
        rw [marked_of T ⟨o', hlt, he⟩, marked_of T ⟨o', by omega, he⟩]
      · rw [marked_of_not T h', marked_of_not T]
        rintro ⟨o', hlt, he⟩
        rcases Nat.lt_succ_iff_lt_or_eq.mp hlt with hlt | heq
        · exact h' ⟨o', hlt, he⟩
        · have : o' = o := Fin.ext heq
          subst this
          exact h he.symm
    rw [e, ← ht]
    simp only [h, decide_false]
    rfl

/-- The trip's position in the rows. -/
def tripAt (k : Fin k0_t2_loop.trips) : Fin 50 := ⟨k.val, k.isLt.trans_le (by decide)⟩

theorem tripAt_val (k : Fin k0_t2_loop.trips) : (tripAt k).val = k.val := rfl

/-- Writing a value at the trip's position. -/
theorem pay1_at (x : FVec Ideal S1x50 .f32) (v : Ideal .f32) (k : Fin k0_t2_loop.trips) (i : Fin 50) :
    k0_pay1 x v (k0_pay32 lanes 0#32 1#32 k) (ix2 0 i) = if i.val = k.val then v else x (ix2 0 i) := by
  pointwise [k0_pay1, k0_pay32, lanes]
  have hk := (tripAt k).isLt
  have hv : (tripAt k).val = k.val := rfl
  have hi := i.isLt
  rw [trip_word, cmpi_number i.val k.val (by omega) (by omega) _ Iff.rfl]
  by_cases h : i.val = k.val <;> simp [h, Scalar.select]

theorem pay2_at (x : FVec Ideal S1x50 .f32) (v : Ideal .f32) (k : Fin k0_t2_loop.trips) (i : Fin 50) :
    k0_pay2 x v (k0_pay32 lanes 0#32 1#32 k) (ix2 0 i) = if i.val = k.val then v else x (ix2 0 i) := pay1_at x v k i

theorem pay3_at (x : FVec Ideal S1x50 .f32) (v : Ideal .f32) (k : Fin k0_t2_loop.trips) (i : Fin 50) :
    k0_pay3 x v (k0_pay32 lanes 0#32 1#32 k) (ix2 0 i) = if i.val = k.val then v else x (ix2 0 i) := pay1_at x v k i

theorem pay4_at (x : FVec Ideal S1x50 .f32) (v : Ideal .f32) (k : Fin k0_t2_loop.trips) (i : Fin 50) :
    k0_pay4 x v (k0_pay32 lanes 0#32 1#32 k) (ix2 0 i) = if i.val = k.val then v else x (ix2 0 i) := pay1_at x v k i

theorem pay5_at (x : FVec Ideal S1x50 .f32) (v : Ideal .f32) (k : Fin k0_t2_loop.trips) (i : Fin 50) :
    k0_pay5 x v (k0_pay32 lanes 0#32 1#32 k) (ix2 0 i) = if i.val = k.val then v else x (ix2 0 i) := pay1_at x v k i

theorem pay6_at (x : FVec Ideal S1x50 .f32) (v : Ideal .f32) (k : Fin k0_t2_loop.trips) (i : Fin 50) :
    k0_pay6 x v (k0_pay32 lanes 0#32 1#32 k) (ix2 0 i) = if i.val = k.val then v else x (ix2 0 i) := pay1_at x v k i

/-- What the loop carries before trip `r`, of the corners `C` taken in each class and round. -/
structure Merges (T : Fin 80 → Fin 50 → EReal) (c1 c2 c3 c4 : FVec Ideal S80x50 .f32) (r : ℕ) (p : Takes Ideal) : Prop where
  left : ∀ c i, p.1 (ix2 c i) = marked T r c i
  score : ∀ o : Fin 50, o.val < r → p.2.1 (ix2 0 o) = entry T (lead T o)
  kind : ∀ o : Fin 50, o.val < r → p.2.2.1 (ix2 0 o) = FloatOps.sitofp (F := Ideal) .f32 (BitVec.ofNat 32 (classOf (lead T o)).val)
  ya : ∀ o : Fin 50, o.val < r → p.2.2.2.1 (ix2 0 o) = c1 (ix2 (classOf (lead T o)) (slotOf (lead T o)))
  xa : ∀ o : Fin 50, o.val < r → p.2.2.2.2.1 (ix2 0 o) = c2 (ix2 (classOf (lead T o)) (slotOf (lead T o)))
  yb : ∀ o : Fin 50, o.val < r → p.2.2.2.2.2.1 (ix2 0 o) = c3 (ix2 (classOf (lead T o)) (slotOf (lead T o)))
  xb : ∀ o : Fin 50, o.val < r → p.2.2.2.2.2.2 (ix2 0 o) = c4 (ix2 (classOf (lead T o)) (slotOf (lead T o)))

/-- Writing position `k` extends what is known of the positions before it. -/
theorem write_next (x y : FVec Ideal S1x50 .f32) (v : Ideal .f32) (f : Fin 50 → Ideal .f32) (k : Fin k0_t2_loop.trips)
    (hy : ∀ i : Fin 50, y (ix2 0 i) = if i.val = k.val then v else x (ix2 0 i))
    (hv : v = f (tripAt k)) (h : ∀ o : Fin 50, o.val < k.val → x (ix2 0 o) = f o) (o : Fin 50) (ho : o.val < k.val + 1) :
    y (ix2 0 o) = f o := by
  rw [hy]
  by_cases e : o.val = k.val
  · rw [if_pos e, hv, show tripAt k = o from Fin.ext e.symm]
  · rw [if_neg e]; exact h o (by omega)

/-- One trip. -/
theorem merges_next (hT : ∀ c i, low ≤ T c i) (c1 c2 c3 c4 : FVec Ideal S80x50 .f32) (k : Fin k0_t2_loop.trips) (p : Takes Ideal)
    (h : Merges T c1 c2 c3 c4 k.val p) :
    Merges T c1 c2 c3 c4 (k.val + 1) (take c1 c2 c3 c4 k0_pay57 k0_pay58 lanes 0#32 1#32 k p) := by
  have hl : ∀ c i, p.1 (ix2 c i) = marked T (tripAt k).val c i := by rw [tripAt_val]; exact h.left
  unfold take
  constructor
  · have h7 := pay7_at hT (tripAt k) hl
    rw [tripAt_val] at h7
    dsimp only
    intro c i
    refine Eq.trans ?_ (h7 c i)
    rfl
  · dsimp only
    exact write_next p.2.1 (k0_pay1 p.2.1 (k0_pay25 p.1) (k0_pay32 lanes 0#32 1#32 k)) (k0_pay25 p.1) (fun o => entry T (lead T o)) k
      (pay1_at p.2.1 (k0_pay25 p.1) k) (pay25_at hT (tripAt k) hl) h.score
  · dsimp only
    exact write_next p.2.2.1 (k0_pay2 p.2.2.1 (k0_pay27 k0_pay57 k0_pay58 p.1) (k0_pay32 lanes 0#32 1#32 k)) (k0_pay27 k0_pay57 k0_pay58 p.1) (fun o => FloatOps.sitofp (F := Ideal) .f32 (BitVec.ofNat 32 (classOf (lead T o)).val)) k
      (pay2_at p.2.2.1 (k0_pay27 k0_pay57 k0_pay58 p.1) k) (pay27_at hT (tripAt k) hl) h.kind
  · dsimp only
    exact write_next p.2.2.2.1 (k0_pay3 p.2.2.2.1 (k0_pay28 c1 k0_pay57 p.1) (k0_pay32 lanes 0#32 1#32 k)) (k0_pay28 c1 k0_pay57 p.1) (fun o => c1 (ix2 (classOf (lead T o)) (slotOf (lead T o)))) k
      (pay3_at p.2.2.2.1 (k0_pay28 c1 k0_pay57 p.1) k) (pay28_at hT (tripAt k) hl c1) h.ya
  · dsimp only
    exact write_next p.2.2.2.2.1 (k0_pay4 p.2.2.2.2.1 (k0_pay29 c2 k0_pay57 p.1) (k0_pay32 lanes 0#32 1#32 k)) (k0_pay29 c2 k0_pay57 p.1) (fun o => c2 (ix2 (classOf (lead T o)) (slotOf (lead T o)))) k
      (pay4_at p.2.2.2.2.1 (k0_pay29 c2 k0_pay57 p.1) k) (pay29_at hT (tripAt k) hl c2) h.xa
  · dsimp only
    exact write_next p.2.2.2.2.2.1 (k0_pay5 p.2.2.2.2.2.1 (k0_pay30 c3 k0_pay57 p.1) (k0_pay32 lanes 0#32 1#32 k)) (k0_pay30 c3 k0_pay57 p.1) (fun o => c3 (ix2 (classOf (lead T o)) (slotOf (lead T o)))) k
      (pay5_at p.2.2.2.2.2.1 (k0_pay30 c3 k0_pay57 p.1) k) (pay30_at hT (tripAt k) hl c3) h.yb
  · dsimp only
    exact write_next p.2.2.2.2.2.2 (k0_pay6 p.2.2.2.2.2.2 (k0_pay31 c4 k0_pay57 p.1) (k0_pay32 lanes 0#32 1#32 k)) (k0_pay31 c4 k0_pay57 p.1) (fun o => c4 (ix2 (classOf (lead T o)) (slotOf (lead T o)))) k
      (pay6_at p.2.2.2.2.2.2 (k0_pay31 c4 k0_pay57 p.1) k) (pay31_at hT (tripAt k) hl c4) h.xb

/-- The fifty trips. -/
theorem merges_fold (hT : ∀ c i, low ≤ T c i) (c1 c2 c3 c4 : FVec Ideal S80x50 .f32) (p : Takes Ideal)
    (h0 : ∀ c i, p.1 (ix2 c i) = T c i) :
    Merges T c1 c2 c3 c4 50 (Scf.fold (take c1 c2 c3 c4 k0_pay57 k0_pay58 lanes 0#32 1#32) p) :=
  fold_holds (take c1 c2 c3 c4 k0_pay57 k0_pay58 lanes 0#32 1#32) p (Merges T c1 c2 c3 c4)
    ⟨fun c i => (h0 c i).trans (marked_of_not T (fun ⟨_, h, _⟩ => absurd h (by omega))).symm,
      fun _ h => absurd h (by omega), fun _ h => absurd h (by omega), fun _ h => absurd h (by omega),
      fun _ h => absurd h (by omega), fun _ h => absurd h (by omega), fun _ h => absurd h (by omega)⟩
    (fun k p h => merges_next hT c1 c2 c3 c4 k p h)

end Cert.Value

end
-- ==== Proof.KernelOutput.lean ====
/-
  What the kernel leaves in its output arrays, at an index.
-/
module

public import proofs.«01_k».proof.Proof.KernelInput
public import proofs.«01_k».proof.Proof.Merge

@[expose] public section

set_option maxRecDepth 16384

noncomputable section

namespace Cert.Value

open Idealize.ShloMosaic
open Cert.KernelIdeal Cert.KernelIdeal.Gen Cert.KernelIdeal.Run

/-! ## The masked rows -/

section Rows
variable (t v : FVec Ideal S1x50 .f32) (o : Fin 50)

theorem pay10_at : k0_pay10 t (ix2 0 o) = if Ideal.ofBits .f32 0x3ECCCCCD#32 ≤ t (ix2 0 o) then t (ix2 0 o) else 0 := by
  pointwise [k0_pay10, k0_pay8]

theorem pay11_at : k0_pay11 t v (ix2 0 o) = if Ideal.ofBits .f32 0x3ECCCCCD#32 ≤ t (ix2 0 o) then v (ix2 0 o) else 0 := by
  pointwise [k0_pay11, k0_pay8]

theorem pay12_at : k0_pay12 t v (ix2 0 o) = if Ideal.ofBits .f32 0x3ECCCCCD#32 ≤ t (ix2 0 o) then v (ix2 0 o) else 0 := by
  pointwise [k0_pay12, k0_pay8]

theorem pay13_at : k0_pay13 t v (ix2 0 o) = if Ideal.ofBits .f32 0x3ECCCCCD#32 ≤ t (ix2 0 o) then v (ix2 0 o) else 0 := by
  pointwise [k0_pay13, k0_pay8]

theorem pay14_at : k0_pay14 t v (ix2 0 o) = if Ideal.ofBits .f32 0x3ECCCCCD#32 ≤ t (ix2 0 o) then v (ix2 0 o) else 0 := by
  pointwise [k0_pay14, k0_pay8]

theorem pay15_at : k0_pay15 t v (ix2 0 o) = if Ideal.ofBits .f32 0x3ECCCCCD#32 ≤ t (ix2 0 o) then v (ix2 0 o) else 0 := by
  pointwise [k0_pay15, k0_pay8]

theorem pay9_at : k0_pay9 t (ix2 0 0) = Finset.fold IntOp.addi 0#32
    (fun o : Fin 50 => BitVec.setWidth 32 (BitVec.ofBool (decide (Ideal.ofBits .f32 0x3ECCCCCD#32 ≤ t (ix2 0 o))))) Finset.univ := by
  pointwise [k0_pay9, k0_pay8]

end Rows

theorem no_offset : (![0, 0] : Fin 2 → ℕ) = fun _ => 0 := by
  funext a; match a with | 0 => rfl | 1 => rfl

theorem canon_line (x : FVec Ideal S1x50 .f32) :
    View.canon (Val := Elt Ideal) [(⟨rLine, x⟩ : View.Piece (Elt Ideal) S1x50 .f32)] = x :=
  View.canon_unit_zero (Val := Elt Ideal) (S := S1x50) (e := .f32) no_offset inb_S1x50_S1x50_0_0 x

theorem canon_one (x : IVec S1x1 32) :
    View.canon (Val := Elt Ideal) [(⟨rOne, x⟩ : View.Piece (Elt Ideal) S1x1 .i32)] = x :=
  View.canon_unit_zero (Val := Elt Ideal) (S := S1x1) (e := .i32) no_offset inb_S1x1_S1x1_0_0 x

/-! ## The loops' results -/

section Results
variable (A : Vec Ideal S1x5000x4 .f32) (B : Vec Ideal S1x5000x80 .f32)

/-- The score of the box a class takes in a round. -/
def table (c : Fin 80) (i : Fin 50) : EReal := takenScore (corners A B) (scores A B c) i.val

/-- The box a class takes in a round. -/
def chosen (c : Fin 80) (i : Fin 50) : Fin 5000 := taken (corners A B) (scores A B c) i.val

/-- No score taken is below −1. -/
theorem low_le_table (c : Fin 80) (i : Fin 50) : low ≤ table A B c i :=
  low_le_takenScore (corners A B) (scores A B c) (low_le_scores A B c) i.val

/-- What the first loop ends with. -/
theorem picked_holds : Holds (corners A B) (scores A B) 50 (picked (sides A) (boxes A) (heights B)) :=
  holds_fold (given A B) (low_le_scores A B) (start (sides A) (boxes A) (heights B)) (start_at A B)

/-- What the second loop ends with. -/
theorem merged_merges : Merges (table A B) (picked (sides A) (boxes A) (heights B)).2.2.1 (picked (sides A) (boxes A) (heights B)).2.2.2.1
    (picked (sides A) (boxes A) (heights B)).2.2.2.2.1 (picked (sides A) (boxes A) (heights B)).2.2.2.2.2 50
    (merged (sides A) (boxes A) (heights B)) :=
  merges_fold (low_le_table A B) (picked (sides A) (boxes A) (heights B)).2.2.1 (picked (sides A) (boxes A) (heights B)).2.2.2.1
    (picked (sides A) (boxes A) (heights B)).2.2.2.2.1 (picked (sides A) (boxes A) (heights B)).2.2.2.2.2
    ((picked (sides A) (boxes A) (heights B)).2.1, k0_pay59, k0_pay59, k0_pay59, k0_pay59, k0_pay59, k0_pay59)
    (fun c i => (picked_holds A B).best c i i.isLt)

/-- An entry that is good enough, or zero. -/
def kept (o : Fin 50) (x : EReal) : EReal :=
  if Ideal.ofBits .f32 0x3ECCCCCD#32 ≤ entry (table A B) (lead (table A B) o) then x else 0

/-- The box of a result. -/
def winner (o : Fin 50) : Fin 5000 :=
  chosen A B (classOf (lead (table A B) o)) (slotOf (lead (table A B) o))

theorem left3_at (o : Fin 50) : left3 (sides A) (boxes A) (heights B) (ix2 0 o) = kept A B o (entry (table A B) (lead (table A B) o)) := by
  unfold left3
  rw [canon_line, pay10_at, (merged_merges A B).score o o.isLt]
  rfl

theorem left4_at (o : Fin 50) : left4 (sides A) (boxes A) (heights B) (ix2 0 o)
    = kept A B o (FloatOps.sitofp (F := Ideal) .f32 (BitVec.ofNat 32 (classOf (lead (table A B) o)).val)) := by
  unfold left4
  rw [canon_line, pay11_at, (merged_merges A B).score o o.isLt, (merged_merges A B).kind o o.isLt]
  rfl

theorem left5_at (o : Fin 50) : left5 (sides A) (boxes A) (heights B) (ix2 0 o) = kept A B o (corners A B (winner A B o) 0) := by
  unfold left5
  rw [canon_line, pay12_at, (merged_merges A B).score o o.isLt, (merged_merges A B).ya o o.isLt, (picked_holds A B).ya _ _ (Fin.isLt _)]
  rfl

theorem left6_at (o : Fin 50) : left6 (sides A) (boxes A) (heights B) (ix2 0 o) = kept A B o (corners A B (winner A B o) 1) := by
  unfold left6
  rw [canon_line, pay13_at, (merged_merges A B).score o o.isLt, (merged_merges A B).xa o o.isLt, (picked_holds A B).xa _ _ (Fin.isLt _)]
  rfl

theorem left7_at (o : Fin 50) : left7 (sides A) (boxes A) (heights B) (ix2 0 o) = kept A B o (corners A B (winner A B o) 2) := by
  unfold left7
  rw [canon_line, pay14_at, (merged_merges A B).score o o.isLt, (merged_merges A B).yb o o.isLt, (picked_holds A B).yb _ _ (Fin.isLt _)]
  rfl

theorem left8_at (o : Fin 50) : left8 (sides A) (boxes A) (heights B) (ix2 0 o) = kept A B o (corners A B (winner A B o) 3) := by
  unfold left8
  rw [canon_line, pay15_at, (merged_merges A B).score o o.isLt, (merged_merges A B).xb o o.isLt, (picked_holds A B).xb _ _ (Fin.isLt _)]
  rfl

theorem left9_at : left9 (sides A) (boxes A) (heights B) (ix2 0 0) = Finset.fold IntOp.addi 0#32
    (fun o : Fin 50 => BitVec.setWidth 32 (BitVec.ofBool
      (decide (Ideal.ofBits .f32 0x3ECCCCCD#32 ≤ entry (table A B) (lead (table A B) o))))) Finset.univ := by
  unfold left9
  rw [canon_one, pay9_at]
  refine congrArg (fun f => Finset.fold IntOp.addi 0#32 f Finset.univ) (funext fun o => ?_)
  rw [(merged_merges A B).score o o.isLt]

end Results

/-- Four rows side by side as one table of boxes. -/
def boxTable (y x y' x' : Vec Ideal S1x50 .f32) : Vec Ideal S1x50x4 .f32 :=
  shapeCast S1x50x4 (concatenate S50x4 1
    [⟨S50x1, broadcastInDim S50x1 ![0] bcast_S50_S50x1_0 (shapeCast S50 y shapeCasts_S1x50_S50)⟩,
     ⟨S50x1, broadcastInDim S50x1 ![0] bcast_S50_S50x1_0 (shapeCast S50 x shapeCasts_S1x50_S50)⟩,
     ⟨S50x1, broadcastInDim S50x1 ![0] bcast_S50_S50x1_0 (shapeCast S50 y' shapeCasts_S1x50_S50)⟩,
     ⟨S50x1, broadcastInDim S50x1 ![0] bcast_S50_S50x1_0 (shapeCast S50 x' shapeCasts_S1x50_S50)⟩]
    concatenates_S50x1_S50x1_S50x1_S50x1_S50x4_d1) shapeCasts_S50x4_S1x50x4

theorem boxTable_0 (y x y' x' : Vec Ideal S1x50 .f32) (o : Fin 50) : boxTable y x y' x' (ix3 0 o 0) = y (ix2 0 o) := by
  pointwise [boxTable]

theorem boxTable_1 (y x y' x' : Vec Ideal S1x50 .f32) (o : Fin 50) : boxTable y x y' x' (ix3 0 o 1) = x (ix2 0 o) := by
  pointwise [boxTable]

theorem boxTable_2 (y x y' x' : Vec Ideal S1x50 .f32) (o : Fin 50) : boxTable y x y' x' (ix3 0 o 2) = y' (ix2 0 o) := by
  pointwise [boxTable]

theorem boxTable_3 (y x y' x' : Vec Ideal S1x50 .f32) (o : Fin 50) : boxTable y x y' x' (ix3 0 o 3) = x' (ix2 0 o) := by
  pointwise [boxTable]

end Cert.Value

end
-- ==== Proof.ReferenceTail.lean ====
/-
  What the reference makes of its loop's last state: the fifty entries that stand first, their boxes and classes, and how
  many of them reach the threshold.
-/
module

public import proofs.«01_k».proof.Proof.Merge
public import proofs.«01_k».proof.Proof.ReferenceRound
public import Idealize.ShloMosaic.Lib.Routing.OpsSet

@[expose] public section

set_option maxRecDepth 16384

noncomputable section

namespace Cert.Value

open Idealize.ShloMosaic
open Cert.ReferenceIdeal Cert.ReferenceIdeal.Gen Cert.ReferenceIdeal.Step

theorem along_line (i k : Fin 4000) : (ix1 i : S4000.Idx).along 0 k = ix1 k := by
  funext a; match a with | ⟨0, _⟩ => rfl

theorem ix1_number (q : Fin 4000) : BitVec.ofNat 32 ((ix1 q : S4000.Idx) 0).val = BitVec.ofNat 32 q.val := rfl

/-- The greatest fifty of a row, in order. -/
theorem topK_value (x : FVec Ideal S4000 .f32) (o : Fin 50) :
    (Host.topK S50 0 (FloatOps.cmpfTotal .gt) x sliceFits_S4000_S50).1 (ix1 o)
      = x (ix1 (rank (fun k : Fin 4000 => (x (ix1 k) : EReal)) ⟨o.val, by omega⟩)) := by
  pointwise [Host.topK, Host.sort2]
  simp only [along_line]
  exact congrArg (fun q : Fin 4000 => x (ix1 q)) (sortedFrom_gt (fun k : Fin 4000 => x (ix1 k)) ⟨o.val, by omega⟩)

/-- Where they stand in the row. -/
theorem topK_place (x : FVec Ideal S4000 .f32) (o : Fin 50) :
    (Host.topK S50 0 (FloatOps.cmpfTotal .gt) x sliceFits_S4000_S50).2 (ix1 o)
      = BitVec.ofNat 32 (rank (fun k : Fin 4000 => (x (ix1 k) : EReal)) ⟨o.val, by omega⟩).val := by
  pointwise [Host.topK, Host.sort2]
  simp only [along_line]
  exact congrArg (fun q : Fin 4000 => BitVec.ofNat 32 ((ix1 q : S4000.Idx) 0).val)
    (sortedFrom_gt (fun k : Fin 4000 => x (ix1 k)) ⟨o.val, by omega⟩) |>.trans (ix1_number _)

/-- A table of 80 × 50 as one row. -/
theorem line_at {α : Type} (x : S80x50.Idx → α) (q : Fin 4000) :
    shapeCast S4000 x shapeCasts_S80x50_S4000 (ix1 q) = x (ix2 (classOf q) (slotOf q)) := by
  pointwise []
  rfl

/-- A number wrapped when negative: a number that is not stays. -/
theorem wrapped_at {t : Shape} (v d z : IVec t 32) (i : t.Idx) (k : ℕ) (hk : k < 2 ^ 31) (hv : v i = BitVec.ofNat 32 k)
    (hz : z = constantI t 32 0#32) : select (cmpi .slt v z) (addi v d) v i = BitVec.ofNat 32 k := by
  subst hz
  refine (select_slt_zero_of_nonneg v _ v i ?_).trans hv
  rw [hv, toInt_ofNat_of_lt hk]
  omega

/-- A class's row of the table of class numbers. -/
theorem class_number (c : Fin 80) (i : Fin 50) :
    broadcastInDim S80x50 ![0] bcast_S80_S80x50_0 (iotaInDim S80 32 0) (ix2 c i) = BitVec.ofNat 32 c.val := by
  pointwise []

/-- The row's element a column of fifty places names. -/
theorem take_at {α : Type} (x : S4000.Idx → α) (v d : IVec S50 32) (o : Fin 50) (q : Fin 4000) (hv : v (ix1 o) = BitVec.ofNat 32 q.val) :
    Host.gather gather_S4000_S50x1_S50_n_0_n_n_0_1_1 x
      (broadcastInDim S50x1 ![0] bcast_S50_S50x1_0 (select (cmpi .slt v (broadcastInDim S50 ![] bcast_S_S50 (constantI S_ 32 0#32))) (addi v d) v)) (ix1 o) = x (ix1 q) :=
  Routing.gather_take1 gather_S4000_S50x1_S50_n_0_n_n_0_1_1 rfl rfl rfl rfl x _ o q
    ((by pointwise [] : broadcastInDim S50x1 ![0] bcast_S50_S50x1_0 (select (cmpi .slt v (broadcastInDim S50 ![] bcast_S_S50 (constantI S_ 32 0#32))) (addi v d) v) (ix2 o (0 : Fin 1))
        = select (cmpi .slt v (broadcastInDim S50 ![] bcast_S_S50 (constantI S_ 32 0#32))) (addi v d) v (ix1 o)).trans (wrapped_at v d _ (ix1 o) q.val (by have := q.isLt; omega) hv (by funext i; pointwise [])))
    (by norm_num)

/-- The table's row a column of fifty numbers names. -/
theorem take_row_at {α : Type} (x : S5000x4.Idx → α) (v d : IVec S50 32) (o : Fin 50) (e : Fin 4) (q : Fin 5000)
    (hv : v (ix1 o) = BitVec.ofNat 32 q.val) :
    Host.gather gather_S5000x4_S50x1_S50x4_1_0_n_n_0_1_14 x
      (broadcastInDim S50x1 ![0] bcast_S50_S50x1_0 (select (cmpi .slt v (broadcastInDim S50 ![] bcast_S_S50 (constantI S_ 32 0#32))) (addi v d) v)) (ix2 o e) = x (ix2 q e) :=
  Routing.gather_row gather_S5000x4_S50x1_S50x4_1_0_n_n_0_1_14 rfl rfl rfl rfl rfl x _ o e q
    ((by pointwise [] : broadcastInDim S50x1 ![0] bcast_S50_S50x1_0 (select (cmpi .slt v (broadcastInDim S50 ![] bcast_S_S50 (constantI S_ 32 0#32))) (addi v d) v) (ix2 o (0 : Fin 1))
        = select (cmpi .slt v (broadcastInDim S50 ![] bcast_S_S50 (constantI S_ 32 0#32))) (addi v d) v (ix1 o)).trans (wrapped_at v d _ (ix1 o) q.val (by have := q.isLt; omega) hv (by funext i; pointwise [])))
    (by norm_num)

section
variable (s : State Ideal) (T : Fin 80 → Fin 50 → EReal) (hT : ∀ c i, s.main_v23_5 (ix2 c i) = T c i)
include hT

/-- The row the reference orders is `entry T`. -/
theorem row_eq : (fun k : Fin 4000 => ((shapeCast S4000 (s.main_v23_5 : FVec Ideal S80x50 .f32) shapeCasts_S80x50_S4000 : FVec Ideal S4000 .f32) (ix1 k) : EReal)) = entry T := by
  funext k
  exact (line_at (α := EReal) s.main_v23_5 k).trans (hT _ _)

theorem best_at (o : Fin 50) :
    (Host.topK S50 0 (FloatOps.cmpfTotal .gt) (shapeCast S4000 (s.main_v23_5 : FVec Ideal S80x50 .f32) shapeCasts_S80x50_S4000 : FVec Ideal S4000 .f32) sliceFits_S4000_S50).1 (ix1 o)
      = entry T (lead T o) := by
  refine (topK_value (shapeCast S4000 (s.main_v23_5 : FVec Ideal S80x50 .f32) shapeCasts_S80x50_S4000 : FVec Ideal S4000 .f32) o).trans ?_
  rw [row_eq s T hT]
  exact (line_at (α := EReal) s.main_v23_5 _).trans (hT _ _)

theorem place_at (o : Fin 50) :
    (Host.topK S50 0 (FloatOps.cmpfTotal .gt) (shapeCast S4000 (s.main_v23_5 : FVec Ideal S80x50 .f32) shapeCasts_S80x50_S4000 : FVec Ideal S4000 .f32) sliceFits_S4000_S50).2 (ix1 o)
      = BitVec.ofNat 32 (lead T o).val := by
  refine (topK_place (shapeCast S4000 (s.main_v23_5 : FVec Ideal S80x50 .f32) shapeCasts_S80x50_S4000 : FVec Ideal S4000 .f32) o).trans ?_
  rw [row_eq s T hT]
  rfl

/-- The scores returned. -/
theorem scores_out (o : Fin 50) :
    R_main_v76 s (ix2 0 o) = if Ideal.ofBits .f32 0x3ECCCCCD#32 ≤ entry T (lead T o) then entry T (lead T o) else 0 := by
  pointwise [R_main_v76, id, best_at s T hT]

/-- The number of boxes returned. -/
theorem count_out :
    R_main_v78 s (ix1 0) = Finset.fold IntOp.addi 0#32
      (fun o : Fin 50 => BitVec.setWidth 32 (BitVec.ofBool (decide (Ideal.ofBits .f32 0x3ECCCCCD#32 ≤ entry T (lead T o)))))
      Finset.univ := by
  pointwise [R_main_v78, best_at s T hT]

/-- The classes returned. -/
theorem classes_out (o : Fin 50) :
    R_main_v77 s (ix2 0 o) = if Ideal.ofBits .f32 0x3ECCCCCD#32 ≤ entry T (lead T o) then
      FloatOps.sitofp (F := Ideal) .f32 (BitVec.ofNat 32 (classOf (lead T o)).val) else 0 := by
  pointwise [R_main_v77, id, best_at s T hT]
  rw [take_at _ _ _ o (lead T o) (place_at s T hT o), line_at, class_number]

/-- The boxes returned. -/
theorem boxes_out (a : (⟨S1x5000x4, .f32⟩ : BufTy).Contents (Elt Ideal)) (b : (⟨S1x5000x80, .f32⟩ : BufTy).Contents (Elt Ideal))
    (B : Fin 80 → Fin 50 → Fin 5000) (hB : ∀ c i, s.main_v23_4 (ix2 c i) = BitVec.ofNat 32 (B c i).val) (o : Fin 50) (e : Fin 4) :
    R_main_v75 s a (ix3 0 o e) = if Ideal.ofBits .f32 0x3ECCCCCD#32 ≤ entry T (lead T o) then
      corners a b (B (classOf (lead T o)) (slotOf (lead T o))) e else 0 := by
  pointwise [R_main_v75, id, best_at s T hT]
  rw [take_row_at _ _ _ o e (B (classOf (lead T o)) (slotOf (lead T o)))
    ((take_at _ _ _ o (lead T o) (place_at s T hT o)).trans ((line_at _ _).trans (hB _ _)))]
  rfl

end

end Cert.Value

end
-- ==== Proof.Final.lean ====
/-
  The value claim: the kernel's four results are the reference's.
-/
module

public import proofs.«01_k».proof.Defs
public import proofs.«01_k».proof.Proof.KernelOutput
public import proofs.«01_k».proof.Proof.ReferenceTail

@[expose] public section

set_option maxRecDepth 16384

noncomputable section

namespace Cert.Value

open Idealize.ShloMosaic Idealize.ShloMosaic.TcCoe
open Idealize.SL Idealize.SL.Sem

section Kernel
open Cert.KernelIdeal Cert.KernelIdeal.Gen Cert.KernelIdeal.Run

variable (m : (ℓ : Loc nD τ sig) → Buf (Elt Ideal) ℓ)

/-- The boxes given. -/
abbrev argA (c : Dev nD) : Vec Ideal S1x5000x4 .f32 := m ((c.tc : Thread nD τ).loc main_arg0)
/-- The scores given. -/
abbrev argB (c : Dev nD) : Vec Ideal S1x5000x80 .f32 := m ((c.tc : Thread nD τ).loc main_arg1)

abbrev res0 (A : Vec Ideal S1x5000x4 .f32) (B : Vec Ideal S1x5000x80 .f32) : Vec Ideal S1x50x4 .f32 :=
  boxTable (left5 (sides A) (boxes A) (heights B)) (left6 (sides A) (boxes A) (heights B)) (left7 (sides A) (boxes A) (heights B))
    (left8 (sides A) (boxes A) (heights B))
abbrev res1 (A : Vec Ideal S1x5000x4 .f32) (B : Vec Ideal S1x5000x80 .f32) : Vec Ideal S1x50 .f32 := left3 (sides A) (boxes A) (heights B)
abbrev res2 (A : Vec Ideal S1x5000x4 .f32) (B : Vec Ideal S1x5000x80 .f32) : Vec Ideal S1x50 .f32 := left4 (sides A) (boxes A) (heights B)
abbrev res3 (A : Vec Ideal S1x5000x4 .f32) (B : Vec Ideal S1x5000x80 .f32) : Vec Ideal S1 .i32 :=
  shapeCast S1 (left9 (sides A) (boxes A) (heights B)) shapeCasts_S1x1_S1

/-- Four columns side by side as one table of boxes. -/
def sideBySide (a b c d : Vec Ideal S50x1 .f32) : Vec Ideal S1x50x4 .f32 :=
  shapeCast S1x50x4 (concatenate S50x4 1 [⟨S50x1, a⟩, ⟨S50x1, b⟩, ⟨S50x1, c⟩, ⟨S50x1, d⟩]
    concatenates_S50x1_S50x1_S50x1_S50x1_S50x4_d1) shapeCasts_S50x4_S1x50x4

/-- A row as a column. -/
def upright (x : Vec Ideal S1x50 .f32) : Vec Ideal S50x1 .f32 :=
  broadcastInDim S50x1 ![0] bcast_S50_S50x1_0 (shapeCast S50 x shapeCasts_S1x50_S50)

/-- The host line after the region up to the four columns. -/
def opsColumns : List (HloOp τ sig (Elt Ideal)) := hostOps1.take 8

/-- The rest of it. -/
def opsJoin : List (HloOp τ sig (Elt Ideal)) := hostOps1.drop 8

theorem opsColumns_join : ([hostOps1] : List (List (HloOp τ sig (Elt Ideal)))).flatten = opsColumns ++ opsJoin := rfl

/-- The rest of the line puts the four columns side by side. -/
theorem join_read (U : Valuation τ sig (Elt Ideal)) : StableHlo.after opsJoin U (Proc.devRef .tc main_v16)
    = sideBySide (U (Proc.devRef .tc main_v11)) (U (Proc.devRef .tc main_v12)) (U (Proc.devRef .tc main_v13))
        (U (Proc.devRef .tc main_v14)) := by
  simp only [opsJoin, hostOps1, List.drop_succ_cons, List.drop_zero, StableHlo.after_cons, StableHlo.after_nil]
  after_results_simp
  rfl

/-- Each column is one of the region's corner rows, set upright. -/
theorem columns_read (W : Valuation τ sig (Elt Ideal)) :
    StableHlo.after opsColumns W (Proc.devRef .tc main_v11) = upright (W (Proc.devRef .tc main_v6_2))
    ∧ StableHlo.after opsColumns W (Proc.devRef .tc main_v12) = upright (W (Proc.devRef .tc main_v6_3))
    ∧ StableHlo.after opsColumns W (Proc.devRef .tc main_v13) = upright (W (Proc.devRef .tc main_v6_4))
    ∧ StableHlo.after opsColumns W (Proc.devRef .tc main_v14) = upright (W (Proc.devRef .tc main_v6_5)) := by
  simp only [opsColumns, hostOps1, List.take_succ_cons, List.take_zero, StableHlo.after_cons, StableHlo.after_nil]
  refine ⟨?_, ?_, ?_, ?_⟩ <;> · after_results_simp; rfl

/-- What the host line after the region makes of the corner rows. -/
theorem tail_boxes (W : Valuation τ sig (Elt Ideal)) :
    StableHlo.after ([hostOps1] : List (List (HloOp τ sig (Elt Ideal)))).flatten W (Proc.devRef .tc main_v16)
      = boxTable (W (Proc.devRef .tc main_v6_2)) (W (Proc.devRef .tc main_v6_3)) (W (Proc.devRef .tc main_v6_4))
          (W (Proc.devRef .tc main_v6_5)) := by
  obtain ⟨h0, h1, h2, h3⟩ := columns_read W
  rw [opsColumns_join, StableHlo.after_append, join_read, h0, h1, h2, h3]
  rfl

/-- What it makes of the count. -/
theorem tail_count (W : Valuation τ sig (Elt Ideal)) :
    StableHlo.after ([hostOps1] : List (List (HloOp τ sig (Elt Ideal)))).flatten W (Proc.devRef .tc main_v17)
      = shapeCast S1 (W (Proc.devRef .tc main_v6_6)) shapeCasts_S1x1_S1 := by
  simp only [List.flatten_cons, List.flatten_nil, List.append_nil, StableHlo.after_cons, StableHlo.after_nil]
  after_results_simp
  rfl

/-- An array read through the region. -/
theorem through (c : Dev nD) (w : Fin 10) :
    Pipeline.withArrays (cfgs 0).spec c (V0 m c) (fun w => (dats m 0 c).arrAt w (cfgs 0).N) (Proc.devRef .tc (Pipeline.arrRef spec0 w))
      = (dats m 0 c).arrAt w (cfgs 0).N :=
  Pipeline.withArrays_arr spec0 winFacts0.arr_inj c (V0 m c) (fun w => (dats m 0 c).arrAt w (cfgs 0).N) w

theorem result_boxes (c : Dev nD) :
    Pipeline.afterTail₀ cfgs (dats m) 0 (V0 m) [hostOps1] c main_v16 = res0 (argA m c) (argB m c) := by
  unfold Pipeline.afterTail₀
  refine (tail_boxes _).trans ?_
  have h2 := (through m c 5).trans (final5 m c)
  have h3 := (through m c 6).trans (final6 m c)
  have h4 := (through m c 7).trans (final7 m c)
  have h5 := (through m c 8).trans (final8 m c)
  rw [entry_v1, entry_v2, entry_v5] at h2 h3 h4 h5
  exact congr (congr (congr (congrArg boxTable h2) h3) h4) h5

theorem result_count (c : Dev nD) :
    Pipeline.afterTail₀ cfgs (dats m) 0 (V0 m) [hostOps1] c main_v17 = res3 (argA m c) (argB m c) := by
  unfold Pipeline.afterTail₀
  refine (tail_count _).trans ?_
  have h := (through m c 9).trans (final9 m c)
  rw [entry_v1, entry_v2, entry_v5] at h
  exact congrArg (fun x : Vec Ideal S1x1 .i32 => shapeCast S1 x shapeCasts_S1x1_S1) h

/-- The kernel's run, with its results named. -/
theorem kernel_run (g : Dev nD → PrngReg) :
    θ_run defs (onTc (τ := τ) (main (F := Ideal))) ⟨m, fun _ => 0, g⟩ (fun r => ∀ c : Dev nD,
      r.2.mem ((c.tc : Thread nD τ).loc main_v16) = res0 (argA m c) (argB m c)
      ∧ r.2.mem ((c.tc : Thread nD τ).loc main_v6_0) = res1 (argA m c) (argB m c)
      ∧ r.2.mem ((c.tc : Thread nD τ).loc main_v6_1) = res2 (argA m c) (argB m c)
      ∧ r.2.mem ((c.tc : Thread nD τ).loc main_v17) = res3 (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (θ_run_and (run m g) (quiet m g)) ?_
  rintro r ⟨⟨h, -⟩, ⟨hq, -⟩⟩ c
  refine ⟨?_, ?_, ?_, ?_, (hq c).1, (hq c).2⟩
  · exact ((h c).2 main_v16 (Pipeline.mem_restRefs_of main_v16  (by decide) (by decide))).trans (result_boxes m c)
  · refine ((h c).1 3).trans ((final3 m c).trans ?_)
    rw [entry_v1, entry_v2, entry_v5]
  · refine ((h c).1 4).trans ((final4 m c).trans ?_)
    rw [entry_v1, entry_v2, entry_v5]
  · exact ((h c).2 main_v17 (Pipeline.mem_restRefs_of main_v17 (by decide) (by decide))).trans (result_count m c)

end Kernel

section Reference
open Cert.ReferenceIdeal Cert.ReferenceIdeal.Gen Cert.ReferenceIdeal.Step
open Cert.KernelIdeal.Run (boxes sides heights left9)

variable (A : Vec Ideal S1x5000x4 .f32) (B : Vec Ideal S1x5000x80 .f32)

theorem last_scores (c : Fin 80) (i : Fin 50) : (Steps.states A B 50).main_v23_5 (ix2 c i) = table A B c i :=
  (states_at A B 50 le_rfl).2.2.2 c i i.isLt

theorem last_boxes (c : Fin 80) (i : Fin 50) : (Steps.states A B 50).main_v23_4 (ix2 c i) = BitVec.ofNat 32 (chosen A B c i).val :=
  (states_at A B 50 le_rfl).2.2.1 c i i.isLt

/-- Rows of fifty are equal when their elements are. -/
theorem line_ext {α : Type} (f g : S1x50.Idx → α) (h : ∀ o : Fin 50, f (ix2 0 o) = g (ix2 0 o)) : f = g := by
  funext i
  rw [eq_ix2 i]
  have h0 : i 0 = (0 : Fin 1) := Subsingleton.elim (α := Fin 1) _ _
  rw [h0]
  exact h (i 1)

/-- Tables of fifty boxes are equal when their elements are. -/
theorem boxes_ext {α : Type} (f g : S1x50x4.Idx → α) (h : ∀ (o : Fin 50) (e : Fin 4), f (ix3 0 o e) = g (ix3 0 o e)) : f = g := by
  funext i
  rw [eq_ix3 i]
  have h0 : i 0 = (0 : Fin 1) := Subsingleton.elim (α := Fin 1) _ _
  rw [h0]
  exact h (i 1) (i 2)

/-- Arrays of one element are equal when it is. -/
theorem one_ext {α : Type} (f g : S1.Idx → α) (h : f (ix1 0) = g (ix1 0)) : f = g := by
  funext i
  rw [eq_ix1 i]
  have h0 : i 0 = (0 : Fin 1) := Subsingleton.elim (α := Fin 1) _ _
  rw [h0]
  exact h

theorem same0 : R_main_v75 (Steps.states A B 50) A = res0 A B := by
  refine boxes_ext _ _ fun o e => ?_
  refine (boxes_out (Steps.states A B 50) (table A B) (last_scores A B) A B (chosen A B) (last_boxes A B) o e).trans ?_
  match e with
  | 0 => exact ((boxTable_0 _ _ _ _ o).trans (left5_at A B o)).symm
  | 1 => exact ((boxTable_1 _ _ _ _ o).trans (left6_at A B o)).symm
  | 2 => exact ((boxTable_2 _ _ _ _ o).trans (left7_at A B o)).symm
  | 3 => exact ((boxTable_3 _ _ _ _ o).trans (left8_at A B o)).symm

theorem same1 : R_main_v76 (Steps.states A B 50) = res1 A B :=
  line_ext _ _ fun o => (scores_out (Steps.states A B 50) (table A B) (last_scores A B) o).trans (left3_at A B o).symm

theorem same2 : R_main_v77 (Steps.states A B 50) = res2 A B :=
  line_ext _ _ fun o => (classes_out (Steps.states A B 50) (table A B) (last_scores A B) o).trans (left4_at A B o).symm

theorem count_cell {α : Type} (x : Cert.KernelIdeal.S1x1.Idx → α) :
    shapeCast Cert.KernelIdeal.S1 x Cert.KernelIdeal.Facts₀.shapeCasts_S1x1_S1 (ix1 0) = x (ix2 0 0) := by
  pointwise []

theorem same3 : R_main_v78 (Steps.states A B 50) = res3 A B :=
  one_ext _ _ ((count_out (Steps.states A B 50) (table A B) (last_scores A B)).trans
    ((count_cell (left9 (sides A) (boxes A) (heights B))).trans (left9_at A B)).symm)

end Reference

/-- The kernel's four results are the reference's, for the same arguments. -/
theorem algebraic : Cert.algebraic_KernelIdeal_ReferenceIdeal := by
  intro m g m' g' _ hagree
  refine ⟨fun c => res0 (argA m c) (argB m c), fun c => res1 (argA m c) (argB m c), fun c => res2 (argA m c) (argB m c),
    fun c => res3 (argA m c) (argB m c), kernel_run m g, ?_⟩
  refine θ_run_mono (Cert.ReferenceIdeal.Steps.run m' g') ?_
  intro r h c
  obtain ⟨h0, h1, h2, h3, h4, h5⟩ := h c
  rw [(hagree c).1, (hagree c).2] at h0 h1 h2 h3
  exact ⟨h0.trans (same0 (argA m c) (argB m c)), h1.trans (same1 (argA m c) (argB m c)), h2.trans (same2 (argA m c) (argB m c)),
    h3.trans (same3 (argA m c) (argB m c)), h4, h5⟩

end Cert.Value

end
-- ==== Proof.lean ====
/-
  The certificate: the three programs run, leave their arguments alone and end with every semaphore at zero; the idealized
  kernel is the kernel's own text; and it computes, over the extended reals, all four results of the reference.
-/
module

public import proofs.«01_k».proof.Defs
public import proofs.«01_k».proof.Proof.KernelRun
public import proofs.«01_k».proof.Proof.KernelIdealRun
public import proofs.«01_k».proof.Proof.ReferenceSteps
public import proofs.«01_k».proof.Proof.Final

@[expose] public section

noncomputable section

namespace Cert.Proof

theorem claim : Cert.Claim :=
  ⟨Cert.Kernel.Gen.facts, Cert.KernelIdeal.Gen.facts, Cert.ReferenceIdeal.Gen.facts,
    fun m g _ => Cert.Kernel.Run.quiet m g,
    fun m g _ => Cert.KernelIdeal.Run.quiet m g,
    fun m g _ => Cert.ReferenceIdeal.Steps.quiet m g,
    trivial,
    Cert.Value.algebraic⟩

end Cert.Proof

end
